-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.block ⟨3, ![1, 1024, 4096]⟩ ⟨3, ![8, 1024, 4096]⟩ 0 8 c (m' (((0 : Dev Cert.ReferenceIdeal.nD).tc : Thread Cert.ReferenceIdeal.nD Cert.ReferenceIdeal.τ).loc Cert.ReferenceIdeal.main_arg0))) →
    ∃ (v0 : Buf (Elt Ideal) (((0 : Dev Cert.ReferenceIdeal.nD).tc : Thread Cert.ReferenceIdeal.nD Cert.ReferenceIdeal.τ).loc Cert.ReferenceIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.block ⟨2, ![1024, 512]⟩ ⟨2, ![1024, 4096]⟩ 1 8 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v0) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S1x1024x4096 : Shape := ⟨3, ![1, 1024, 4096]⟩
abbrev S1024x512 : Shape := ⟨2, ![1024, 512]⟩
abbrev S8x1024x256 : Shape := ⟨3, ![8, 1024, 256]⟩
abbrev S7x2 : Shape := ⟨2, ![7, 2]⟩
abbrev S_ : Shape := ⟨0, ![]⟩
abbrev S1x1024x256 : Shape := ⟨3, ![1, 1024, 256]⟩
abbrev S1024x256 : Shape := ⟨2, ![1024, 256]⟩
abbrev S1x1 : Shape := ⟨2, ![1, 1]⟩
abbrev S1x512x256 : Shape := ⟨3, ![1, 512, 256]⟩
abbrev S512x256 : Shape := ⟨2, ![512, 256]⟩

abbrev nBuf : Space → Nat
  | .hbm => 2
  | .vmem => 4
  | .smem => 0
  | _ => 0

abbrev bufTy : (tb : Table) → Fin (tcTables nBuf tb) → BufTy
  | .hbm, ⟨0, _⟩ => ⟨S1x1024x4096, .f32⟩
  | .hbm, ⟨1, _⟩ => ⟨S1024x512, .f32⟩
  | .local _ .vmem, ⟨0, _⟩ => ⟨S1x1024x4096, .f32⟩
  | .local _ .vmem, ⟨1, _⟩ => ⟨S1024x512, .f32⟩
  | .local _ .vmem, ⟨2, _⟩ => ⟨S8x1024x256, .f32⟩
  | .local _ .vmem, ⟨3, _⟩ => ⟨S8x1024x256, .f32⟩
  | _, _ => ⟨S1x1024x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 1 → Bool
  | ⟨0, _⟩ => false
  | _ => false

abbrev dmaSemScoped : Fin 58 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | _ => false

abbrev sig : RefSig :=
  (ofTc nBuf bufTy 1 58 bufScoped semScoped dmaSemScoped tileCredit tileCredit_eq_zero tileCredit_pos).withBarriers [(0, 0)]

abbrev main_arg0 : Ref sig .tc := ⟨.hbm, 0, rfl⟩
abbrev main_v1 : Ref sig .tc := ⟨.hbm, 1, rfl⟩
abbrev cc0_stg0_0 : Ref sig .tc := ⟨.vmem, 0, rfl⟩
abbrev cc0_stg1_0 : Ref sig .tc := ⟨.vmem, 1, rfl⟩
abbrev cc0_scratch0 : Ref sig .tc := ⟨.vmem, 2, rfl⟩
abbrev cc0_scratch1 : Ref sig .tc := ⟨.vmem, 3, rfl⟩
abbrev cc0_sem0_0 : DmaSem sig := 0
abbrev cc0_sem1_0 : DmaSem sig := 1
abbrev barrier0 : Sem sig := 0

abbrev nD : Nat := 8
abbrev τ : Topo := Topo.v7x

variable {F : FTy → Type} [FloatOps F]

abbrev grid0 : Pipeline.Grid := .none

def k0_dev1 (d0 : Dev nD) : Nat :=
  let c0_i32_15 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.subi v2 c1_i32_0
  let c8_i32_1 : BitVec 32 := 8#32
  let c0_i32 : BitVec 32 := 0#32
  let v4 : BitVec 1 := Scalar.cmpi .eq c8_i32_1 c0_i32
  let c1_i32_2 : BitVec 32 := 1#32
  let v5 : BitVec 32 := Scalar.select v4 c1_i32_2 c8_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_14 : BitVec 32 := 1#32
  let v26 : BitVec 32 := Scalar.muli v13 c1_i32_14
  let v27 : BitVec 32 := Scalar.addi c0_i32_15 v26
  v27.toNat
def k0_dev2 (d0 : Dev nD) : Nat :=
  let c0_i32_18 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_6 : BitVec 32 := 1#32
  let v14 : BitVec 32 := Scalar.addi v2 c1_i32_6
  let c8_i32_7 : BitVec 32 := 8#32
  let c0_i32_8 : BitVec 32 := 0#32
  let v15 : BitVec 1 := Scalar.cmpi .eq c8_i32_7 c0_i32_8
  let c1_i32_9 : BitVec 32 := 1#32
  let v16 : BitVec 32 := Scalar.select v15 c1_i32_9 c8_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_17 : BitVec 32 := 1#32
  let v28 : BitVec 32 := Scalar.muli v24 c1_i32_17
  let v29 : BitVec 32 := Scalar.addi c0_i32_18 v28
  v29.toNat
def k0_off1 (d0 : Dev nD) : Fin 3 → Nat :=
  let c0 : Index := 0#32
  let c0_33 : Index := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_19 : BitVec 32 := 1#32
  let v30 : BitVec 32 := Scalar.subi v2 c1_i32_19
  let c8_i32_20 : BitVec 32 := 8#32
  let c0_i32_21 : BitVec 32 := 0#32
  let v31 : BitVec 1 := Scalar.cmpi .eq c8_i32_20 c0_i32_21
  let c1_i32_22 : BitVec 32 := 1#32
  let v32 : BitVec 32 := Scalar.select v31 c1_i32_22 c8_i32_20
  let v33 : BitVec 32 := Scalar.remsi v30 v32
  let c0_i32_24 : BitVec 32 := 0#32
  let v35 : BitVec 1 := Scalar.cmpi .slt v33 c0_i32_24
  let c0_i32_25 : BitVec 32 := 0#32
  let v36 : BitVec 1 := Scalar.cmpi .slt v32 c0_i32_25
  let v37 : BitVec 1 := Scalar.xori v35 v36
  let c0_i32_23 : BitVec 32 := 0#32
  let v34 : BitVec 1 := Scalar.cmpi .ne v33 c0_i32_23
  let v38 : BitVec 1 := Scalar.andi v37 v34
  let v39 : BitVec 32 := Scalar.addi v33 v32
  let v40 : BitVec 32 := Scalar.select v38 v39 v33
  let c512_i32 : BitVec 32 := 512#32
  let v52 : BitVec 32 := Scalar.muli v40 c512_i32
  let v53 : Index := Scalar.indexCast v52
  ![0, 0, v53.toNat]
def k0_off2 (d0 : Dev nD) : Fin 3 → Nat :=
  let c0_37 : Index := 0#32
  let c0_38 : Index := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_26 : BitVec 32 := 1#32
  let v41 : BitVec 32 := Scalar.addi v2 c1_i32_26
  let c8_i32_27 : BitVec 32 := 8#32
  let c0_i32_28 : BitVec 32 := 0#32
  let v42 : BitVec 1 := Scalar.cmpi .eq c8_i32_27 c0_i32_28
  let c1_i32_29 : BitVec 32 := 1#32
  let v43 : BitVec 32 := Scalar.select v42 c1_i32_29 c8_i32_27
  let v44 : BitVec 32 := Scalar.remsi v41 v43
  let c0_i32_31 : BitVec 32 := 0#32
  let v46 : BitVec 1 := Scalar.cmpi .slt v44 c0_i32_31
  let c0_i32_32 : BitVec 32 := 0#32
  let v47 : BitVec 1 := Scalar.cmpi .slt v43 c0_i32_32
  let v48 : BitVec 1 := Scalar.xori v46 v47
  let c0_i32_30 : BitVec 32 := 0#32
  let v45 : BitVec 1 := Scalar.cmpi .ne v44 c0_i32_30
  let v49 : BitVec 1 := Scalar.andi v48 v45
  let v50 : BitVec 32 := Scalar.addi v44 v43
  let v51 : BitVec 32 := Scalar.select v49 v50 v44
  let c512_i32_36 : BitVec 32 := 512#32
  let v59 : BitVec 32 := Scalar.muli v51 c512_i32_36
  let c256_i32 : BitVec 32 := 256#32
  let v60 : BitVec 32 := Scalar.addi v59 c256_i32
  let v61 : Index := Scalar.indexCast v60
  ![0, 0, v61.toNat]
def k0_dev3 (d0 : Dev nD) : Nat :=
  let c0_i32_48 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_6 : BitVec 32 := 1#32
  let v14 : BitVec 32 := Scalar.addi v2 c1_i32_6
  let c8_i32_7 : BitVec 32 := 8#32
  let c0_i32_8 : BitVec 32 := 0#32
  let v15 : BitVec 1 := Scalar.cmpi .eq c8_i32_7 c0_i32_8
  let c1_i32_9 : BitVec 32 := 1#32
  let v16 : BitVec 32 := Scalar.select v15 c1_i32_9 c8_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_47 : BitVec 32 := 1#32
  let v67 : BitVec 32 := Scalar.muli v24 c1_i32_47
  let v68 : BitVec 32 := Scalar.addi c0_i32_48 v67
  v68.toNat
def k0_dev4 (d0 : Dev nD) : Nat :=
  let c0_i32_60 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.subi v2 c1_i32_0
  let c8_i32_1 : BitVec 32 := 8#32
  let c0_i32 : BitVec 32 := 0#32
  let v4 : BitVec 1 := Scalar.cmpi .eq c8_i32_1 c0_i32
  let c1_i32_2 : BitVec 32 := 1#32
  let v5 : BitVec 32 := Scalar.select v4 c1_i32_2 c8_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_59 : BitVec 32 := 1#32
  let v77 : BitVec 32 := Scalar.muli v13 c1_i32_59
  let v78 : BitVec 32 := Scalar.addi c0_i32_60 v77
  v78.toNat
def k0_dev5 (d0 : Dev nD) : Nat :=
  let c0_i32_72 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_6 : BitVec 32 := 1#32
  let v14 : BitVec 32 := Scalar.addi v2 c1_i32_6
  let c8_i32_7 : BitVec 32 := 8#32
  let c0_i32_8 : BitVec 32 := 0#32
  let v15 : BitVec 1 := Scalar.cmpi .eq c8_i32_7 c0_i32_8
  let c1_i32_9 : BitVec 32 := 1#32
  let v16 : BitVec 32 := Scalar.select v15 c1_i32_9 c8_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_71 : BitVec 32 := 1#32
  let v87 : BitVec 32 := Scalar.muli v24 c1_i32_71
  let v88 : BitVec 32 := Scalar.addi c0_i32_72 v87
  v88.toNat
def k0_dev6 (d0 : Dev nD) : Nat :=
  let c0_i32_84 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.subi v2 c1_i32_0
  let c8_i32_1 : BitVec 32 := 8#32
  let c0_i32 : BitVec 32 := 0#32
  let v4 : BitVec 1 := Scalar.cmpi .eq c8_i32_1 c0_i32
  let c1_i32_2 : BitVec 32 := 1#32
  let v5 : BitVec 32 := Scalar.select v4 c1_i32_2 c8_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_83 : BitVec 32 := 1#32
  let v97 : BitVec 32 := Scalar.muli v13 c1_i32_83
  let v98 : BitVec 32 := Scalar.addi c0_i32_84 v97
  v98.toNat
def k0_off3 (d0 : Dev nD) (c0_i32_90 : BitVec 32) : Fin 3 → Nat :=
  let c0_121 : Index := 0#32
  let c0_122 : Index := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32_89 : BitVec 32 := 2#32
  let v107 : BitVec 32 := Scalar.subi v2 c2_i32_89
  let v108 : BitVec 32 := Scalar.subi v107 c0_i32_90
  let c8_i32_91 : BitVec 32 := 8#32
  let c0_i32_92 : BitVec 32 := 0#32
  let v109 : BitVec 1 := Scalar.cmpi .eq c8_i32_91 c0_i32_92
  let c1_i32_93 : BitVec 32 := 1#32
  let v110 : BitVec 32 := Scalar.select v109 c1_i32_93 c8_i32_91
  let v111 : BitVec 32 := Scalar.remsi v108 v110
  let c0_i32_95 : BitVec 32 := 0#32
  let v113 : BitVec 1 := Scalar.cmpi .slt v111 c0_i32_95
  let c0_i32_96 : BitVec 32 := 0#32
  let v114 : BitVec 1 := Scalar.cmpi .slt v110 c0_i32_96
  let v115 : BitVec 1 := Scalar.xori v113 v114
  let c0_i32_94 : BitVec 32 := 0#32
  let v112 : BitVec 1 := Scalar.cmpi .ne v111 c0_i32_94
  let v116 : BitVec 1 := Scalar.andi v115 v112
  let v117 : BitVec 32 := Scalar.addi v111 v110
  let v118 : BitVec 32 := Scalar.select v116 v117 v111
  let c512_i32_120 : BitVec 32 := 512#32
  let v141 : BitVec 32 := Scalar.muli v118 c512_i32_120
  let v142 : Index := Scalar.indexCast v141
  ![0, 0, v142.toNat]
def k0_dev7 (d0 : Dev nD) : Nat :=
  let c0_i32_133 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_6 : BitVec 32 := 1#32
  let v14 : BitVec 32 := Scalar.addi v2 c1_i32_6
  let c8_i32_7 : BitVec 32 := 8#32
  let c0_i32_8 : BitVec 32 := 0#32
  let v15 : BitVec 1 := Scalar.cmpi .eq c8_i32_7 c0_i32_8
  let c1_i32_9 : BitVec 32 := 1#32
  let v16 : BitVec 32 := Scalar.select v15 c1_i32_9 c8_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_132 : BitVec 32 := 1#32
  let v149 : BitVec 32 := Scalar.muli v24 c1_i32_132
  let v150 : BitVec 32 := Scalar.addi c0_i32_133 v149
  v150.toNat
def k0_off4 (d0 : Dev nD) (c0_i32_98 : BitVec 32) : Fin 3 → Nat :=
  let c0_155 : Index := 0#32
  let c0_156 : Index := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32_97 : BitVec 32 := 2#32
  let v119 : BitVec 32 := Scalar.addi v2 c2_i32_97
  let v120 : BitVec 32 := Scalar.addi v119 c0_i32_98
  let c8_i32_99 : BitVec 32 := 8#32
  let c0_i32_100 : BitVec 32 := 0#32
  let v121 : BitVec 1 := Scalar.cmpi .eq c8_i32_99 c0_i32_100
  let c1_i32_101 : BitVec 32 := 1#32
  let v122 : BitVec 32 := Scalar.select v121 c1_i32_101 c8_i32_99
  let v123 : BitVec 32 := Scalar.remsi v120 v122
  let c0_i32_103 : BitVec 32 := 0#32
  let v125 : BitVec 1 := Scalar.cmpi .slt v123 c0_i32_103
  let c0_i32_104 : BitVec 32 := 0#32
  let v126 : BitVec 1 := Scalar.cmpi .slt v122 c0_i32_104
  let v127 : BitVec 1 := Scalar.xori v125 v126
  let c0_i32_102 : BitVec 32 := 0#32
  let v124 : BitVec 1 := Scalar.cmpi .ne v123 c0_i32_102
  let v128 : BitVec 1 := Scalar.andi v127 v124
  let v129 : BitVec 32 := Scalar.addi v123 v122
  let v130 : BitVec 32 := Scalar.select v128 v129 v123
  let c512_i32_153 : BitVec 32 := 512#32
  let v169 : BitVec 32 := Scalar.muli v130 c512_i32_153
  let c256_i32_154 : BitVec 32 := 256#32
  let v170 : BitVec 32 := Scalar.addi v169 c256_i32_154
  let v171 : Index := Scalar.indexCast v170
  ![0, 0, v171.toNat]
def k0_dev8 (d0 : Dev nD) : Nat :=
  let c0_i32_167 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.subi v2 c1_i32_0
  let c8_i32_1 : BitVec 32 := 8#32
  let c0_i32 : BitVec 32 := 0#32
  let v4 : BitVec 1 := Scalar.cmpi .eq c8_i32_1 c0_i32
  let c1_i32_2 : BitVec 32 := 1#32
  let v5 : BitVec 32 := Scalar.select v4 c1_i32_2 c8_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_166 : BitVec 32 := 1#32
  let v178 : BitVec 32 := Scalar.muli v13 c1_i32_166
  let v179 : BitVec 32 := Scalar.addi c0_i32_167 v178
  v179.toNat
def k0_off5 (d0 : Dev nD) (c0_i32_90 : BitVec 32) : Fin 3 → Nat :=
  let c0_187 : Index := 0#32
  let c512_188 : Index := 512#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32_89 : BitVec 32 := 2#32
  let v107 : BitVec 32 := Scalar.subi v2 c2_i32_89
  let v108 : BitVec 32 := Scalar.subi v107 c0_i32_90
  let c8_i32_91 : BitVec 32 := 8#32
  let c0_i32_92 : BitVec 32 := 0#32
  let v109 : BitVec 1 := Scalar.cmpi .eq c8_i32_91 c0_i32_92
  let c1_i32_93 : BitVec 32 := 1#32
  let v110 : BitVec 32 := Scalar.select v109 c1_i32_93 c8_i32_91
  let v111 : BitVec 32 := Scalar.remsi v108 v110
  let c0_i32_95 : BitVec 32 := 0#32
  let v113 : BitVec 1 := Scalar.cmpi .slt v111 c0_i32_95
  let c0_i32_96 : BitVec 32 := 0#32
  let v114 : BitVec 1 := Scalar.cmpi .slt v110 c0_i32_96
  let v115 : BitVec 1 := Scalar.xori v113 v114
  let c0_i32_94 : BitVec 32 := 0#32
  let v112 : BitVec 1 := Scalar.cmpi .ne v111 c0_i32_94
  let v116 : BitVec 1 := Scalar.andi v115 v112
  let v117 : BitVec 32 := Scalar.addi v111 v110
  let v118 : BitVec 32 := Scalar.select v116 v117 v111
  let c512_i32_186 : BitVec 32 := 512#32
  let v198 : BitVec 32 := Scalar.muli v118 c512_i32_186
  let v199 : Index := Scalar.indexCast v198
  ![0, 512, v199.toNat]
def k0_dev9 (d0 : Dev nD) : Nat :=
  let c0_i32_199 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_6 : BitVec 32 := 1#32
  let v14 : BitVec 32 := Scalar.addi v2 c1_i32_6
  let c8_i32_7 : BitVec 32 := 8#32
  let c0_i32_8 : BitVec 32 := 0#32
  let v15 : BitVec 1 := Scalar.cmpi .eq c8_i32_7 c0_i32_8
  let c1_i32_9 : BitVec 32 := 1#32
  let v16 : BitVec 32 := Scalar.select v15 c1_i32_9 c8_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_198 : BitVec 32 := 1#32
  let v206 : BitVec 32 := Scalar.muli v24 c1_i32_198
  let v207 : BitVec 32 := Scalar.addi c0_i32_199 v206
  v207.toNat
def k0_off6 (d0 : Dev nD) (c0_i32_98 : BitVec 32) : Fin 3 → Nat :=
  let c0_221 : Index := 0#32
  let c512_222 : Index := 512#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32_97 : BitVec 32 := 2#32
  let v119 : BitVec 32 := Scalar.addi v2 c2_i32_97
  let v120 : BitVec 32 := Scalar.addi v119 c0_i32_98
  let c8_i32_99 : BitVec 32 := 8#32
  let c0_i32_100 : BitVec 32 := 0#32
  let v121 : BitVec 1 := Scalar.cmpi .eq c8_i32_99 c0_i32_100
  let c1_i32_101 : BitVec 32 := 1#32
  let v122 : BitVec 32 := Scalar.select v121 c1_i32_101 c8_i32_99
  let v123 : BitVec 32 := Scalar.remsi v120 v122
  let c0_i32_103 : BitVec 32 := 0#32
  let v125 : BitVec 1 := Scalar.cmpi .slt v123 c0_i32_103
  let c0_i32_104 : BitVec 32 := 0#32
  let v126 : BitVec 1 := Scalar.cmpi .slt v122 c0_i32_104
  let v127 : BitVec 1 := Scalar.xori v125 v126
  let c0_i32_102 : BitVec 32 := 0#32
  let v124 : BitVec 1 := Scalar.cmpi .ne v123 c0_i32_102
  let v128 : BitVec 1 := Scalar.andi v127 v124
  let v129 : BitVec 32 := Scalar.addi v123 v122
  let v130 : BitVec 32 := Scalar.select v128 v129 v123
  let c512_i32_219 : BitVec 32 := 512#32
  let v226 : BitVec 32 := Scalar.muli v130 c512_i32_219
  let c256_i32_220 : BitVec 32 := 256#32
  let v227 : BitVec 32 := Scalar.addi v226 c256_i32_220
  let v228 : Index := Scalar.indexCast v227
  ![0, 512, v228.toNat]
def k0_dev10 (d0 : Dev nD) : Nat :=
  let c0_i32_233 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.subi v2 c1_i32_0
  let c8_i32_1 : BitVec 32 := 8#32
  let c0_i32 : BitVec 32 := 0#32
  let v4 : BitVec 1 := Scalar.cmpi .eq c8_i32_1 c0_i32
  let c1_i32_2 : BitVec 32 := 1#32
  let v5 : BitVec 32 := Scalar.select v4 c1_i32_2 c8_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_232 : BitVec 32 := 1#32
  let v235 : BitVec 32 := Scalar.muli v13 c1_i32_232
  let v236 : BitVec 32 := Scalar.addi c0_i32_233 v235
  v236.toNat
def k0_dev11 (d0 : Dev nD) : Nat :=
  let c0_i32_281 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_6 : BitVec 32 := 1#32
  let v14 : BitVec 32 := Scalar.addi v2 c1_i32_6
  let c8_i32_7 : BitVec 32 := 8#32
  let c0_i32_8 : BitVec 32 := 0#32
  let v15 : BitVec 1 := Scalar.cmpi .eq c8_i32_7 c0_i32_8
  let c1_i32_9 : BitVec 32 := 1#32
  let v16 : BitVec 32 := Scalar.select v15 c1_i32_9 c8_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_280 : BitVec 32 := 1#32
  let v287 : BitVec 32 := Scalar.muli v24 c1_i32_280
  let v288 : BitVec 32 := Scalar.addi c0_i32_281 v287
  v288.toNat
def k0_dev12 (d0 : Dev nD) : Nat :=
  let c0_i32_315 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.subi v2 c1_i32_0
  let c8_i32_1 : BitVec 32 := 8#32
  let c0_i32 : BitVec 32 := 0#32
  let v4 : BitVec 1 := Scalar.cmpi .eq c8_i32_1 c0_i32
  let c1_i32_2 : BitVec 32 := 1#32
  let v5 : BitVec 32 := Scalar.select v4 c1_i32_2 c8_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_314 : BitVec 32 := 1#32
  let v316 : BitVec 32 := Scalar.muli v13 c1_i32_314
  let v317 : BitVec 32 := Scalar.addi c0_i32_315 v316
  v317.toNat
def k0_dev13 (d0 : Dev nD) : Nat :=
  let c0_i32_348 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_6 : BitVec 32 := 1#32
  let v14 : BitVec 32 := Scalar.addi v2 c1_i32_6
  let c8_i32_7 : BitVec 32 := 8#32
  let c0_i32_8 : BitVec 32 := 0#32
  let v15 : BitVec 1 := Scalar.cmpi .eq c8_i32_7 c0_i32_8
  let c1_i32_9 : BitVec 32 := 1#32
  let v16 : BitVec 32 := Scalar.select v15 c1_i32_9 c8_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_347 : BitVec 32 := 1#32
  let v344 : BitVec 32 := Scalar.muli v24 c1_i32_347
  let v345 : BitVec 32 := Scalar.addi c0_i32_348 v344
  v345.toNat
def k0_dev14 (d0 : Dev nD) : Nat :=
  let c0_i32_382 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.subi v2 c1_i32_0
  let c8_i32_1 : BitVec 32 := 8#32
  let c0_i32 : BitVec 32 := 0#32
  let v4 : BitVec 1 := Scalar.cmpi .eq c8_i32_1 c0_i32
  let c1_i32_2 : BitVec 32 := 1#32
  let v5 : BitVec 32 := Scalar.select v4 c1_i32_2 c8_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_381 : BitVec 32 := 1#32
  let v373 : BitVec 32 := Scalar.muli v13 c1_i32_381
  let v374 : BitVec 32 := Scalar.addi c0_i32_382 v373
  v374.toNat
def k0_dev15 (d0 : Dev nD) : Nat :=
  let c0_i32_429 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_6 : BitVec 32 := 1#32
  let v14 : BitVec 32 := Scalar.addi v2 c1_i32_6
  let c8_i32_7 : BitVec 32 := 8#32
  let c0_i32_8 : BitVec 32 := 0#32
  let v15 : BitVec 1 := Scalar.cmpi .eq c8_i32_7 c0_i32_8
  let c1_i32_9 : BitVec 32 := 1#32
  let v16 : BitVec 32 := Scalar.select v15 c1_i32_9 c8_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_428 : BitVec 32 := 1#32
  let v425 : BitVec 32 := Scalar.muli v24 c1_i32_428
  let v426 : BitVec 32 := Scalar.addi c0_i32_429 v425
  v426.toNat
def k0_dev16 (d0 : Dev nD) : Nat :=
  let c0_i32_463 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.subi v2 c1_i32_0
  let c8_i32_1 : BitVec 32 := 8#32
  let c0_i32 : BitVec 32 := 0#32
  let v4 : BitVec 1 := Scalar.cmpi .eq c8_i32_1 c0_i32
  let c1_i32_2 : BitVec 32 := 1#32
  let v5 : BitVec 32 := Scalar.select v4 c1_i32_2 c8_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_462 : BitVec 32 := 1#32
  let v454 : BitVec 32 := Scalar.muli v13 c1_i32_462
  let v455 : BitVec 32 := Scalar.addi c0_i32_463 v454
  v455.toNat
def k0_dev17 (d0 : Dev nD) : Nat :=
  let c0_i32_496 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_6 : BitVec 32 := 1#32
  let v14 : BitVec 32 := Scalar.addi v2 c1_i32_6
  let c8_i32_7 : BitVec 32 := 8#32
  let c0_i32_8 : BitVec 32 := 0#32
  let v15 : BitVec 1 := Scalar.cmpi .eq c8_i32_7 c0_i32_8
  let c1_i32_9 : BitVec 32 := 1#32
  let v16 : BitVec 32 := Scalar.select v15 c1_i32_9 c8_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_495 : BitVec 32 := 1#32
  let v482 : BitVec 32 := Scalar.muli v24 c1_i32_495
  let v483 : BitVec 32 := Scalar.addi c0_i32_496 v482
  v483.toNat
def k0_dev18 (d0 : Dev nD) : Nat :=
  let c0_i32_530 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.subi v2 c1_i32_0
  let c8_i32_1 : BitVec 32 := 8#32
  let c0_i32 : BitVec 32 := 0#32
  let v4 : BitVec 1 := Scalar.cmpi .eq c8_i32_1 c0_i32
  let c1_i32_2 : BitVec 32 := 1#32
  let v5 : BitVec 32 := Scalar.select v4 c1_i32_2 c8_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_529 : BitVec 32 := 1#32
  let v511 : BitVec 32 := Scalar.muli v13 c1_i32_529
  let v512 : BitVec 32 := Scalar.addi c0_i32_530 v511
  v512.toNat
def k0_dev19 (d0 : Dev nD) : Nat :=
  let c0_i32_577 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_6 : BitVec 32 := 1#32
  let v14 : BitVec 32 := Scalar.addi v2 c1_i32_6
  let c8_i32_7 : BitVec 32 := 8#32
  let c0_i32_8 : BitVec 32 := 0#32
  let v15 : BitVec 1 := Scalar.cmpi .eq c8_i32_7 c0_i32_8
  let c1_i32_9 : BitVec 32 := 1#32
  let v16 : BitVec 32 := Scalar.select v15 c1_i32_9 c8_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_576 : BitVec 32 := 1#32
  let v563 : BitVec 32 := Scalar.muli v24 c1_i32_576
  let v564 : BitVec 32 := Scalar.addi c0_i32_577 v563
  v564.toNat
def k0_dev20 (d0 : Dev nD) : Nat :=
  let c0_i32_611 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.subi v2 c1_i32_0
  let c8_i32_1 : BitVec 32 := 8#32
  let c0_i32 : BitVec 32 := 0#32
  let v4 : BitVec 1 := Scalar.cmpi .eq c8_i32_1 c0_i32
  let c1_i32_2 : BitVec 32 := 1#32
  let v5 : BitVec 32 := Scalar.select v4 c1_i32_2 c8_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_610 : BitVec 32 := 1#32
  let v592 : BitVec 32 := Scalar.muli v13 c1_i32_610
  let v593 : BitVec 32 := Scalar.addi c0_i32_611 v592
  v593.toNat
def k0_dev21 (d0 : Dev nD) : Nat :=
  let c0_i32_644 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_6 : BitVec 32 := 1#32
  let v14 : BitVec 32 := Scalar.addi v2 c1_i32_6
  let c8_i32_7 : BitVec 32 := 8#32
  let c0_i32_8 : BitVec 32 := 0#32
  let v15 : BitVec 1 := Scalar.cmpi .eq c8_i32_7 c0_i32_8
  let c1_i32_9 : BitVec 32 := 1#32
  let v16 : BitVec 32 := Scalar.select v15 c1_i32_9 c8_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_643 : BitVec 32 := 1#32
  let v620 : BitVec 32 := Scalar.muli v24 c1_i32_643
  let v621 : BitVec 32 := Scalar.addi c0_i32_644 v620
  v621.toNat
def k0_dev22 (d0 : Dev nD) : Nat :=
  let c0_i32_678 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.subi v2 c1_i32_0
  let c8_i32_1 : BitVec 32 := 8#32
  let c0_i32 : BitVec 32 := 0#32
  let v4 : BitVec 1 := Scalar.cmpi .eq c8_i32_1 c0_i32
  let c1_i32_2 : BitVec 32 := 1#32
  let v5 : BitVec 32 := Scalar.select v4 c1_i32_2 c8_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_677 : BitVec 32 := 1#32
  let v649 : BitVec 32 := Scalar.muli v13 c1_i32_677
  let v650 : BitVec 32 := Scalar.addi c0_i32_678 v649
  v650.toNat
def k0_dev23 (d0 : Dev nD) : Nat :=
  let c0_i32_725 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_6 : BitVec 32 := 1#32
  let v14 : BitVec 32 := Scalar.addi v2 c1_i32_6
  let c8_i32_7 : BitVec 32 := 8#32
  let c0_i32_8 : BitVec 32 := 0#32
  let v15 : BitVec 1 := Scalar.cmpi .eq c8_i32_7 c0_i32_8
  let c1_i32_9 : BitVec 32 := 1#32
  let v16 : BitVec 32 := Scalar.select v15 c1_i32_9 c8_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_724 : BitVec 32 := 1#32
  let v701 : BitVec 32 := Scalar.muli v24 c1_i32_724
  let v702 : BitVec 32 := Scalar.addi c0_i32_725 v701
  v702.toNat
def k0_dev24 (d0 : Dev nD) : Nat :=
  let c0_i32_759 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.subi v2 c1_i32_0
  let c8_i32_1 : BitVec 32 := 8#32
  let c0_i32 : BitVec 32 := 0#32
  let v4 : BitVec 1 := Scalar.cmpi .eq c8_i32_1 c0_i32
  let c1_i32_2 : BitVec 32 := 1#32
  let v5 : BitVec 32 := Scalar.select v4 c1_i32_2 c8_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_758 : BitVec 32 := 1#32
  let v730 : BitVec 32 := Scalar.muli v13 c1_i32_758
  let v731 : BitVec 32 := Scalar.addi c0_i32_759 v730
  v731.toNat
def k0_dev25 (d0 : Dev nD) : Nat :=
  let c0_i32_792 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_6 : BitVec 32 := 1#32
  let v14 : BitVec 32 := Scalar.addi v2 c1_i32_6
  let c8_i32_7 : BitVec 32 := 8#32
  let c0_i32_8 : BitVec 32 := 0#32
  let v15 : BitVec 1 := Scalar.cmpi .eq c8_i32_7 c0_i32_8
  let c1_i32_9 : BitVec 32 := 1#32
  let v16 : BitVec 32 := Scalar.select v15 c1_i32_9 c8_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_791 : BitVec 32 := 1#32
  let v758 : BitVec 32 := Scalar.muli v24 c1_i32_791
  let v759 : BitVec 32 := Scalar.addi c0_i32_792 v758
  v759.toNat
def k0_dev26 (d0 : Dev nD) : Nat :=
  let c0_i32_826 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.subi v2 c1_i32_0
  let c8_i32_1 : BitVec 32 := 8#32
  let c0_i32 : BitVec 32 := 0#32
  let v4 : BitVec 1 := Scalar.cmpi .eq c8_i32_1 c0_i32
  let c1_i32_2 : BitVec 32 := 1#32
  let v5 : BitVec 32 := Scalar.select v4 c1_i32_2 c8_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_825 : BitVec 32 := 1#32
  let v787 : BitVec 32 := Scalar.muli v13 c1_i32_825
  let v788 : BitVec 32 := Scalar.addi c0_i32_826 v787
  v788.toNat
def k0_dev27 (d0 : Dev nD) : Nat :=
  let c0_i32_873 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_6 : BitVec 32 := 1#32
  let v14 : BitVec 32 := Scalar.addi v2 c1_i32_6
  let c8_i32_7 : BitVec 32 := 8#32
  let c0_i32_8 : BitVec 32 := 0#32
  let v15 : BitVec 1 := Scalar.cmpi .eq c8_i32_7 c0_i32_8
  let c1_i32_9 : BitVec 32 := 1#32
  let v16 : BitVec 32 := Scalar.select v15 c1_i32_9 c8_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_872 : BitVec 32 := 1#32
  let v839 : BitVec 32 := Scalar.muli v24 c1_i32_872
  let v840 : BitVec 32 := Scalar.addi c0_i32_873 v839
  v840.toNat
def k0_dev28 (d0 : Dev nD) : Nat :=
  let c0_i32_907 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.subi v2 c1_i32_0
  let c8_i32_1 : BitVec 32 := 8#32
  let c0_i32 : BitVec 32 := 0#32
  let v4 : BitVec 1 := Scalar.cmpi .eq c8_i32_1 c0_i32
  let c1_i32_2 : BitVec 32 := 1#32
  let v5 : BitVec 32 := Scalar.select v4 c1_i32_2 c8_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_906 : BitVec 32 := 1#32
  let v868 : BitVec 32 := Scalar.muli v13 c1_i32_906
  let v869 : BitVec 32 := Scalar.addi c0_i32_907 v868
  v869.toNat
def k0_dev29 (d0 : Dev nD) : Nat :=
  let c0_i32_940 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_6 : BitVec 32 := 1#32
  let v14 : BitVec 32 := Scalar.addi v2 c1_i32_6
  let c8_i32_7 : BitVec 32 := 8#32
  let c0_i32_8 : BitVec 32 := 0#32
  let v15 : BitVec 1 := Scalar.cmpi .eq c8_i32_7 c0_i32_8
  let c1_i32_9 : BitVec 32 := 1#32
  let v16 : BitVec 32 := Scalar.select v15 c1_i32_9 c8_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_939 : BitVec 32 := 1#32
  let v896 : BitVec 32 := Scalar.muli v24 c1_i32_939
  let v897 : BitVec 32 := Scalar.addi c0_i32_940 v896
  v897.toNat
def k0_dev30 (d0 : Dev nD) : Nat :=
  let c0_i32_974 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.subi v2 c1_i32_0
  let c8_i32_1 : BitVec 32 := 8#32
  let c0_i32 : BitVec 32 := 0#32
  let v4 : BitVec 1 := Scalar.cmpi .eq c8_i32_1 c0_i32
  let c1_i32_2 : BitVec 32 := 1#32
  let v5 : BitVec 32 := Scalar.select v4 c1_i32_2 c8_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_973 : BitVec 32 := 1#32
  let v925 : BitVec 32 := Scalar.muli v13 c1_i32_973
  let v926 : BitVec 32 := Scalar.addi c0_i32_974 v925
  v926.toNat
def k0_off7 (d0 : Dev nD) : Fin 3 → Nat :=
  let c0_994 : Index := 0#32
  let c0_995 : Index := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c512_i32_993 : BitVec 32 := 512#32
  let v945 : BitVec 32 := Scalar.muli v2 c512_i32_993
  let v946 : Index := Scalar.indexCast v945
  ![0, 0, v946.toNat]
def k0_off8 (d0 : Dev nD) : Fin 3 → Nat :=
  let c0_1015 : Index := 0#32
  let c0_1016 : Index := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c512_i32_1013 : BitVec 32 := 512#32
  let v961 : BitVec 32 := Scalar.muli v2 c512_i32_1013
  let c256_i32_1014 : BitVec 32 := 256#32
  let v962 : BitVec 32 := Scalar.addi v961 c256_i32_1014
  let v963 : Index := Scalar.indexCast v962
  ![0, 0, v963.toNat]
def k0_off9 (d0 : Dev nD) : Fin 3 → Nat :=
  let c0_1034 : Index := 0#32
  let c512_1035 : Index := 512#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c512_i32_1033 : BitVec 32 := 512#32
  let v978 : BitVec 32 := Scalar.muli v2 c512_i32_1033
  let v979 : Index := Scalar.indexCast v978
  ![0, 512, v979.toNat]
def k0_off10 (d0 : Dev nD) : Fin 3 → Nat :=
  let c0_1055 : Index := 0#32
  let c512_1056 : Index := 512#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c512_i32_1053 : BitVec 32 := 512#32
  let v994 : BitVec 32 := Scalar.muli v2 c512_i32_1053
  let c256_i32_1054 : BitVec 32 := 256#32
  let v995 : BitVec 32 := Scalar.addi v994 c256_i32_1054
  let v996 : Index := Scalar.indexCast v995
  ![0, 512, v996.toNat]
abbrev stage0_0 : Fin 1 → Memref sig .tc .vmem S1x1024x4096 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1024x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
-- ==== ReferenceIdeal.lean ====
abbrev S8x1024x4096 : Shape := ⟨3, ![8, 1024, 4096]⟩
abbrev S_ : Shape := ⟨0, ![]⟩
abbrev S1024x4096 : Shape := ⟨2, ![1024, 4096]⟩

abbrev nBuf : Space → Nat
  | .hbm => 3
  | .vmem => 0
  | .smem => 0
  | _ => 0

abbrev bufTy : (tb : Table) → Fin (tcTables nBuf tb) → BufTy
  | .hbm, ⟨0, _⟩ => ⟨S8x1024x4096, .f32⟩
  | .hbm, ⟨1, _⟩ => ⟨S_, .f32⟩
  | .hbm, ⟨2, _⟩ => ⟨S1024x4096, .f32⟩
  | _, _ => ⟨S8x1024x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_cst : Ref sig .tc := ⟨.hbm, 1, rfl⟩
abbrev main_v0 : Ref sig .tc := ⟨.hbm, 2, rfl⟩

abbrev nD : Nat := 1
abbrev τ : Topo := Topo.v7x

variable {F : FTy → Type} [FloatOps F]
-- ==== Proof.KernelIdealProg.lean ====
/-
The kernel body as a program over a list of ring steps.

A step is named by a direction (`true` sends to the next device, `false` to the previous one), a round
`s : Fin 7` and a half `k : Fin 2` of the rows. This module writes the regions, the semaphores and the
operations of one step once, for any direction, round and half, and shows that the printed body is the
program that runs them in the kernel's order.
-/
module

public import proofs.«01_k».proof.Proof.Gen.KernelIdeal
public import proofs.«01_k».proof.Proof.Gen.KernelIdeal.Skeleton
public import proofs.«01_k».proof.Proof.Gen.KernelIdeal.Launch
public import Idealize.ShloMosaic.Lib.Pipeline.Launch
public import Idealize.ShloMosaic.Lib.Pipeline.Kit
public import Idealize.ShloMosaic.Lib.Tactic

@[expose] public section

noncomputable section

namespace Cert.KernelIdealProof

open Cert.KernelIdeal Cert.KernelIdeal.Gen
open Idealize.ShloMosaic
open Idealize.ShloMosaic.TcCoe
open Idealize.SL.Sem

variable {F : FTy → Type} [FloatOps F]

/-! ## The ring -/

set_option backward.proofsInPublic true in
/-- The device after `c`. -/
def nxt (c : Dev nD) : Dev nD := ⟨(c.val + 1) % 8, Nat.mod_lt _ (by decide)⟩
set_option backward.proofsInPublic true in
/-- The device before `c`. -/
def prv (c : Dev nD) : Dev nD := ⟨(c.val + 7) % 8, Nat.mod_lt _ (by decide)⟩

theorem prv_nxt (c : Dev nD) : prv (nxt c) = c := by revert c; decide
theorem nxt_prv (c : Dev nD) : nxt (prv c) = c := by revert c; decide

/-- The device a transfer of direction `d` goes to. -/
def dst : Bool → Dev nD → Dev nD
  | true => nxt
  | false => prv

/-- The device a transfer of direction `d` comes from. -/
def org : Bool → Dev nD → Dev nD
  | true => prv
  | false => nxt

theorem org_dst (d : Bool) (c : Dev nD) : org d (dst d c) = c := by cases d; exacts [nxt_prv c, prv_nxt c]
theorem dst_org (d : Bool) (c : Dev nD) : dst d (org d c) = c := by cases d; exacts [prv_nxt c, nxt_prv c]

/-! ## Regions and semaphores -/

/-- A step of the ring: direction, round, half of the rows. -/
abbrev Ev : Type := Bool × Fin 7 × Fin 2

abbrev xM : Memref sig .tc .vmem S1x1024x4096 .f32 := Memref.whole cc0_stg0_0
abbrev oM : Memref sig .tc .vmem S1024x512 .f32 := Memref.whole cc0_stg1_0

/-- The scratch buffer of a direction. -/
def scr : Bool → Memref sig .tc .vmem S8x1024x256 .f32
  | true => Memref.whole cc0_scratch0
  | false => Memref.whole cc0_scratch1
/-- The send semaphores of a direction. -/
def ssems : Bool → DmaSems sig S7x2
  | true => cc0_scratch2
  | false => cc0_scratch4
/-- The receive semaphores of a direction. -/
def rsems : Bool → DmaSems sig S7x2
  | true => cc0_scratch3
  | false => cc0_scratch5

theorem half_inb (j : Fin 8) (k : Fin 2) : ∀ a, (![j.val, 512 * k.val, 0] : Fin 3 → Nat) a + S1x512x256.size a ≤ S8x1024x256.size a := by
  revert j k; decide
theorem sem_inb (s : Fin 7) (k : Fin 2) : ∀ a, (![s.val, k.val] : Fin 2 → Nat) a + S1x1.size a ≤ S7x2.size a := by
  revert s k; decide
theorem quad_inb (d : Bool) (k : Fin 2) : ∀ a, (![512 * k.val, if d then 0 else 256] : Fin 2 → Nat) a + S512x256.size a ≤ S1024x512.size a := by
  revert d k; decide

/-- Half `k` of slot `j` of a scratch buffer. -/
abbrev half (j : Fin 8) (k : Fin 2) : Rect S8x1024x256 := Rect.unit (s := S8x1024x256) ![j.val, 512 * k.val, 0] S1x512x256.size (half_inb j k)
/-- The quadrant of the output of direction `d` and half `k`. -/
abbrev quad (d : Bool) (k : Fin 2) : Rect S1024x512 := Rect.unit (s := S1024x512) ![512 * k.val, if d then 0 else 256] S512x256.size (quad_inb d k)
/-- The whole slot 7. -/
abbrev slot7 : Rect S8x1024x256 := Rect.unit (s := S8x1024x256) ![7, 0, 0] S1x1024x256.size inb_S8x1024x256_S1x1024x256_7_0_0

/-- Half `k` of slot `j` as a buffer of its own. -/
abbrev reg (d : Bool) (j : Fin 8) (k : Fin 2) : Memref sig .tc .vmem S512x256 .f32 :=
  ((scr d).slice (half j k) (fun _ => rfl)).squeeze S512x256 squeezes_S1x512x256_S512x256
/-- One semaphore of an array. -/
abbrev semAt (A : DmaSems sig S7x2) (s : Fin 7) (k : Fin 2) : DmaSem sig :=
  ((A.slice (Rect.unit (s := S7x2) ![s.val, k.val] S1x1.size (sem_inb s k))).squeeze S_ squeezes_S1x1_S_).sem
/-- The slot a round's transfer lands in. -/
abbrev land (s : Fin 7) : Fin 8 := s.castSucc
/-- The slot a round's transfer leaves from: slot 7, then the slot the round before landed in. -/
def src : Fin 7 → Fin 8
  | 0 => 7 | 1 => 0 | 2 => 1 | 3 => 2 | 4 => 3 | 5 => 4 | 6 => 5

/-- The runtime's barrier semaphore. -/
abbrev barS : Sem sig := (SemArray.scalar (sig.barrier 0 rfl) : Sems sig S_).sem

/-- Where in `x` the block added after round `s` begins. -/
def xoff (c : Dev nD) (d : Bool) (s : Fin 7) (k : Fin 2) : Fin 3 → Nat :=
  match d, k with
  | true, 0 => if s.val = 6 then k0_off7 c else k0_off3 c (BitVec.ofNat 32 s.val)
  | false, 0 => if s.val = 6 then k0_off8 c else k0_off4 c (BitVec.ofNat 32 s.val)
  | true, 1 => if s.val = 6 then k0_off9 c else k0_off5 c (BitVec.ofNat 32 s.val)
  | false, 1 => if s.val = 6 then k0_off10 c else k0_off6 c (BitVec.ofNat 32 s.val)

/-- The column of `x` the block of round `s` begins at. -/
def xcol (c : Dev nD) (d : Bool) (s : Fin 7) : Nat :=
  match d with
  | true => (c.val + 6 - s.val) % 8 * 512
  | false => (c.val + 2 + s.val) % 8 * 512 + 256

theorem xoff_eq : ∀ (c : Dev nD) (d : Bool) (s : Fin 7) (k : Fin 2), xoff c d s k = ![0, 512 * k.val, xcol c d s] := by decide +kernel
theorem xoff_inb (c : Dev nD) (d : Bool) (s : Fin 7) (k : Fin 2) : ∀ a, xoff c d s k a + S1x512x256.size a ≤ S1x1024x4096.size a := by
  revert c d s k; decide +kernel
/-- The block of `x` added after round `s`. -/
abbrev xblk (c : Dev nD) (d : Bool) (s : Fin 7) (k : Fin 2) : Rect S1x1024x4096 :=
  Rect.unit (s := S1x1024x4096) (xoff c d s k) S1x512x256.size (xoff_inb c d s k)

/-- Where in `x` the block stored into slot 7 begins. -/
def xoff0 (c : Dev nD) : Bool → Fin 3 → Nat
  | true => k0_off1 c
  | false => k0_off2 c
theorem xoff0_inb (c : Dev nD) (d : Bool) : ∀ a, xoff0 c d a + S1x1024x256.size a ≤ S1x1024x4096.size a := by
  revert c d; decide +kernel
abbrev xblk0 (c : Dev nD) (d : Bool) : Rect S1x1024x4096 := Rect.unit (s := S1x1024x4096) (xoff0 c d) S1x1024x256.size (xoff0_inb c d)

/-! ## The operations of a step -/

abbrev PG := Prog (TpuEff nD τ sig (Elt F) Λ₀ .tc)

/-- Start the transfer of a step. -/
def sendOp (c : Dev nD) (e : Ev) : PG (F := F) PUnit :=
  Prog.lift (.enqueueDma (reg e.1 (src e.2.1) e.2.2) (.remote (Dev.tc (dst e.1 c)) (reg e.1 (land e.2.1) e.2.2) (.dma (semAt (ssems e.1) e.2.1 e.2.2)))
    (.dma (semAt (rsems e.1) e.2.1 e.2.2)) ((View.wordExact_bits rfl).reshape _ _) ((View.wordExact_bits rfl).reshape _ _) ⟨⟨rfl, Or.inl rfl⟩, trivial⟩)

/-- Wait for the transfer of a step to arrive. -/
def recvOp (e : Ev) : PG (F := F) PUnit :=
  Prog.lift (.waitDma2 (semAt (rsems e.1) e.2.1 e.2.2) (reg e.1 (src e.2.1) e.2.2) (reg e.1 (land e.2.1) e.2.2)
    ((View.wordExact_bits rfl).reshape _ _) ((View.wordExact_bits rfl).reshape _ _))

/-- Wait for the transfer of a step to have left. -/
def sentOp (e : Ev) : PG (F := F) PUnit :=
  Prog.lift (.waitDma2 (semAt (ssems e.1) e.2.1 e.2.2) (reg e.1 (land e.2.1) e.2.2) (reg e.1 (src e.2.1) e.2.2)
    ((View.wordExact_bits rfl).reshape _ _) ((View.wordExact_bits rfl).reshape _ _))

/-- The next step of the same direction and half. -/
def up (e : Ev) : Ev := (e.1, e.2.1 + 1, e.2.2)

/-- The sum of what a region holds and a block of `x`. -/
def sumOf (a b : Vec F S1x512x256 .f32) : FVec F S512x256 .f32 :=
  addf (shapeCast S512x256 a shapeCasts_S1x512x256_S512x256) (shapeCast S512x256 b shapeCasts_S1x512x256_S512x256)

/-- One round in the middle: receive, add this device's block, send on. -/
def hop (c : Dev nD) (e : Ev) : PG (F := F) PUnit := do
  recvOp e
  let a : Vec F S1x512x256 .f32 ← Prog.lift (.load (scr e.1) (half (land e.2.1) e.2.2).toLoadRect (View.loadsAt_vmem h_S1x512x256))
  let b : Vec F S1x512x256 .f32 ← Prog.lift (.load xM (xblk c e.1 e.2.1 e.2.2).toLoadRect (View.loadsAt_vmem h_S1x512x256))
  let _ : Vec F S1x512x256 .f32 ← Prog.lift (.load (scr e.1) (half (land e.2.1) e.2.2).toLoadRect (View.loadsAt_vmem h_S1x512x256))
  Prog.lift (.store (scr e.1) (half (land e.2.1) e.2.2) (shapeCast S1x512x256 (sumOf a b) shapeCasts_S512x256_S1x512x256) Finset.univ
    (View.stores_vmem_bits_univ h_S1x512x256 rfl) (.inl rfl))
  sendOp c (up e)

/-- The last round: receive, add this device's block, store the sum into the output. -/
def last (c : Dev nD) (e : Ev) : PG (F := F) PUnit := do
  recvOp e
  let a : Vec F S1x512x256 .f32 ← Prog.lift (.load (scr e.1) (half (land e.2.1) e.2.2).toLoadRect (View.loadsAt_vmem h_S1x512x256))
  let b : Vec F S1x512x256 .f32 ← Prog.lift (.load xM (xblk c e.1 e.2.1 e.2.2).toLoadRect (View.loadsAt_vmem h_S1x512x256))
  let _ : Vec F S512x256 .f32 ← Prog.lift (.load oM (quad e.1 e.2.2).toLoadRect (View.loadsAt_vmem h_S512x256))
  Prog.lift (.store oM (quad e.1 e.2.2) (sumOf a b) Finset.univ (View.stores_vmem_bits_univ h_S512x256 rfl) (.inl rfl))

/-- Store this device's first block of direction `d` into slot 7. -/
def seed (c : Dev nD) (d : Bool) : PG (F := F) PUnit := do
  let a : Vec F S1x1024x256 .f32 ← Prog.lift (.load xM (xblk0 c d).toLoadRect (View.loadsAt_vmem h_S1x1024x256))
  let _ : Vec F S1x1024x256 .f32 ← Prog.lift (.load (scr d) slot7.toLoadRect (View.loadsAt_vmem h_S1x1024x256))
  Prog.lift (.store (scr d) slot7 (k0_pay1 a) Finset.univ (View.stores_vmem_bits_univ h_S1x1024x256 rfl) (.inl rfl))

/-- Tell both neighbours that this device is ready, and wait for both. -/
def meet (c : Dev nD) : PG (F := F) PUnit := do
  semSignalWord (prv c) barS 1#32
  semSignalWord (nxt c) barS 1#32
  semWaitWord barS 2#32

/-- Run `f` along a list of steps. -/
def each (f : Ev → PG (F := F) PUnit) : List Ev → PG (F := F) PUnit
  | [] => .ret ⟨⟩
  | e :: l => do f e; each f l

/-- The four steps of a round, in the kernel's order. -/
abbrev round (s : Fin 7) : List Ev := [(true, s, 0), (false, s, 0), (true, s, 1), (false, s, 1)]
abbrev mids : List Ev := [0, 1, 2, 3, 4, 5].flatMap round
abbrev alls : List Ev := [0, 1, 2, 3, 4, 5, 6].flatMap round

/-- The whole body on device `c`. -/
def prog (c : Dev nD) : PG (F := F) PUnit := do
  meet c
  seed c true
  seed c false
  each (sendOp c) (round 0)
  each (hop c) mids
  each (last c) (round 6)
  each sentOp alls

/-! ## The printed body is this program -/

omit [FloatOps F] in
/-- A signal whose target is computed by `f` is the signal to the neighbour `f` computes. -/
theorem signal_dev {c : Dev nD} {g : Dev nD → Dev nD} {n : ℤ} (f : Dev nD → Nat) (hf : ∀ c, f c < nD) (h : ∀ c, f c = (g c).val) :
    (TpuEff.semSignal (⟨f c, hf c⟩ : Dev nD) barS n : TpuEff nD τ sig (Elt F) Λ₀ .tc PUnit) = TpuEff.semSignal (g c) barS n := by
  rw [show (⟨f c, hf c⟩ : Dev nD) = g c from Fin.ext (h c)]

omit [FloatOps F] in
/-- A transfer whose target is computed by `f` is the transfer to the neighbour `f` computes. -/
theorem send_dev {c : Dev nD} {d : Bool} {s : Fin 7} {k : Fin 2} (f : Dev nD → Nat) (hf : ∀ c, f c < nD) (h : ∀ c, f c = (dst d c).val) :
    (TpuEff.enqueueDma (reg d (src s) k) (.remote (Dev.tc (dst d c)) (reg d (land s) k) (.dma (semAt (ssems d) s k)))
      (.dma (semAt (rsems d) s k)) ((View.wordExact_bits rfl).reshape _ _) ((View.wordExact_bits rfl).reshape _ _) ⟨⟨rfl, Or.inl rfl⟩, trivial⟩
      : TpuEff nD τ sig (Elt F) Λ₀ .tc PUnit)
    = TpuEff.enqueueDma (reg d (src s) k) (.remote (Dev.tc (⟨f c, hf c⟩ : Dev nD)) (reg d (land s) k) (.dma (semAt (ssems d) s k)))
      (.dma (semAt (rsems d) s k)) ((View.wordExact_bits rfl).reshape _ _) ((View.wordExact_bits rfl).reshape _ _) ⟨⟨rfl, Or.inl rfl⟩, trivial⟩ := by
  have h' : (⟨f c, hf c⟩ : Dev nD) = dst d c := Fin.ext (h c)
  generalize (⟨f c, hf c⟩ : Dev nD) = n at h'
  subst h'; rfl

set_option maxRecDepth 100000 in
set_option maxHeartbeats 4000000 in
/-- The printed body reads its device and runs `prog` on it: operation by operation they are the same, the
    targets of the signals and transfers by computing each device's neighbour. -/
theorem body_eq : cc0_body (F := F) xM (Memref.isWhole_whole _) oM (Memref.isWhole_whole _) (Memref.whole cc0_scratch0) (Memref.isWhole_whole _)
    (Memref.whole cc0_scratch1) (Memref.isWhole_whole _) cc0_scratch2 cc0_scratch3 cc0_scratch4 cc0_scratch5 = Prog.op .deviceId fun c => prog c := by
  simp only [cc0_body_eq_skeleton, cc0_body_skel,
    k0_part1_eq_skeleton, k0_part2_eq_skeleton, k0_part3_eq_skeleton, k0_part4_eq_skeleton, k0_part5_eq_skeleton, k0_part6_eq_skeleton,
    k0_part7_eq_skeleton, k0_part8_eq_skeleton, k0_part9_eq_skeleton, k0_part10_eq_skeleton, k0_part11_eq_skeleton, k0_part12_eq_skeleton,
    k0_part13_eq_skeleton, k0_part14_eq_skeleton, k0_part15_eq_skeleton, k0_part16_eq_skeleton, k0_part17_eq_skeleton, k0_part18_eq_skeleton,
    k0_part19_eq_skeleton, k0_part20_eq_skeleton, k0_part21_eq_skeleton, k0_part22_eq_skeleton, k0_part23_eq_skeleton, k0_part24_eq_skeleton,
    k0_part25_eq_skeleton, k0_part26_eq_skeleton, k0_part27_eq_skeleton, k0_part28_eq_skeleton, k0_part29_eq_skeleton, k0_part30_eq_skeleton,
    k0_part31_eq_skeleton, k0_part32_eq_skeleton, k0_part33_eq_skeleton, k0_part34_eq_skeleton, k0_part35_eq_skeleton, k0_part36_eq_skeleton,
    k0_part37_eq_skeleton, k0_part38_eq_skeleton, k0_part39_eq_skeleton, k0_part40_eq_skeleton, k0_part41_eq_skeleton, k0_part42_eq_skeleton,
    k0_part43_eq_skeleton, k0_part44_eq_skeleton, k0_part45_eq_skeleton, k0_part1_skel, k0_part2_skel, k0_part3_skel, k0_part4_skel, k0_part5_skel,
    k0_part6_skel, k0_part7_skel, k0_part8_skel, k0_part9_skel, k0_part10_skel, k0_part11_skel, k0_part12_skel, k0_part13_skel, k0_part14_skel,
    k0_part15_skel, k0_part16_skel, k0_part17_skel, k0_part18_skel, k0_part19_skel, k0_part20_skel, k0_part21_skel, k0_part22_skel, k0_part23_skel,
    k0_part24_skel, k0_part25_skel, k0_part26_skel, k0_part27_skel, k0_part28_skel, k0_part29_skel, k0_part30_skel, k0_part31_skel, k0_part32_skel,
    k0_part33_skel, k0_part34_skel, k0_part35_skel, k0_part36_skel, k0_part37_skel, k0_part38_skel, k0_part39_skel, k0_part40_skel, k0_part41_skel,
    k0_part42_skel, k0_part43_skel, k0_part44_skel, k0_part45_skel,
    semSignalWord, semWaitWord, Prog.lift, Prog.bind_op, Prog.bind_ret, Prog.pure_eq_ret]
  simp only [prog, meet, seed, each, hop, last, sendOp, recvOp, sentOp, round, mids, alls, List.flatMap_cons, List.flatMap_nil, List.cons_append,
    List.nil_append, List.append_nil, semSignalWord, semWaitWord, Prog.lift, Prog.bind_op, Prog.bind_ret, Prog.pure_eq_ret]
  refine congrArg _ (funext fun c => ?_)
  repeat (refine congr (congrArg Prog.op (by
    first
      | exact signal_dev (F := F) (g := prv) _ _ (by decide +kernel)
      | exact signal_dev (F := F) (g := nxt) _ _ (by decide +kernel)
      | exact Eq.symm (by exact send_dev (F := F) _ _ (by decide +kernel))
      | rfl)) (funext fun _ => ?_))
  rfl

end Cert.KernelIdealProof

end
-- ==== Proof.KernelIdealRing.lean ====
/-
The protocol of the bidirectional ring: what each semaphore's unit means and what it hands over.

Every semaphore of the kernel runs one round. A receive semaphore hands over the landing region holding the
partial sum the sender sent; a send semaphore hands the source region back; the barrier semaphore has one
unit from each neighbour and hands over that neighbour's landing regions.
-/
module

public import proofs.«01_k».proof.Proof.KernelIdealProg
public import Idealize.ShloMosaic.Lib.Pipeline.BigSepL

@[expose] public section

noncomputable section

namespace Cert.KernelIdealProof

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-! ## The resource algebra -/

abbrev UB : Type := URounds (GSem nD τ sig) Bool
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

variable (m : (ℓ : Loc nD τ sig) → Buf (Elt F) ℓ) (ρ : Dev nD → PrngReg)

/-- The memory at launch: any contents, every counter zero, any generator registers. -/
def s₀ : MemSt nD τ sig (Elt F) := ⟨m, fun _ => 0, ρ⟩

/-! ## Cells -/

/-- The kernel's cells on one device: the barrier, and per step a receive (`true`) and a send (`false`) cell. -/
abbrev KI : Type := Unit ⊕ (Bool × Ev)

/-- The kernel's own semaphores. -/
def osem (x : Bool × Ev) : SemLoc sig :=
  match x.1 with
  | true => .dma (semAt (rsems x.2.1) x.2.2.1 x.2.2.2)
  | false => .dma (semAt (ssems x.2.1) x.2.2.1 x.2.2.2)

/-- All the semaphores of the protocol. -/
def csem : KI → SemLoc sig
  | .inl _ => .reg barS
  | .inr x => osem x

theorem osem_injective : Function.Injective osem := by
  have h : ∀ a b : Bool × Ev, osem a = osem b → a = b := by decide +kernel
  exact fun a b => h a b

theorem osem_ne_bar (x : Bool × Ev) : osem x ≠ .reg barS := by
  obtain ⟨b, e⟩ := x
  cases b <;> exact fun h => by cases h

theorem csem_injective : Function.Injective csem := by
  rintro (a | a) (b | b) h
  · rfl
  · exact absurd h.symm (osem_ne_bar b)
  · exact absurd h (osem_ne_bar a)
  · exact congrArg _ (osem_injective h)

abbrev cell (c : Dev nD) (x : KI) : GSem nD τ sig := ((c : Thread nD τ), csem x)
abbrev barCell (c : Dev nD) : GSem nD τ sig := cell c (.inl ())
abbrev recvCell (c : Dev nD) (e : Ev) : GSem nD τ sig := cell c (.inr (true, e))
abbrev sendCell (c : Dev nD) (e : Ev) : GSem nD τ sig := cell c (.inr (false, e))

theorem cell_inj {a b : Dev nD} {x y : KI} (h : cell a x = cell b y) : a = b ∧ x = y :=
  ⟨Fin.ext (congrArg (fun g : GSem nD τ sig => g.1.1.val) h), csem_injective (congrArg Prod.snd h)⟩

open Classical in
/-- Which cell of the protocol a semaphore is. -/
def dec (sm : SemLoc sig) : Option KI := if h : ∃ x, csem x = sm then some h.choose else none

theorem dec_csem (x : KI) : dec (csem x) = some x := by
  have h : ∃ y, csem y = csem x := ⟨x, rfl⟩
  unfold dec
  rw [dif_pos h, csem_injective h.choose_spec]

/-- The bytes one transfer moves. -/
abbrev N : ℕ := (reg true 0 0).view.dmaCredit
theorem N_pos : 0 < N := View.dmaCredit_pos _ (by decide)
theorem reg_credit (d : Bool) (j : Fin 8) (k : Fin 2) : (reg d j k).view.dmaCredit = N := by
  cases d <;> rfl

/-! ## Contents -/

/-- Device `c`'s input, as staged. -/
def xstg (c : Dev nD) : (cc0_stg0_0 : Ref sig .tc).ty.Contents (Elt F) :=
  (win0_0.blk (0 : Fin 1)).view.read (Elt F) ((s₀ m ρ).mem ((c : Thread nD τ).loc main_arg0))

/-- A 512 × 256 block of device `c`'s input. -/
def xval (c : Dev nD) (off : Fin 3 → Nat) (h : ∀ a, off a + S1x512x256.size a ≤ S1x1024x4096.size a) : FVec F S512x256 .f32 :=
  shapeCast S512x256 (xM.view.readAt (Elt F) (Rect.unit (s := S1x1024x4096) off S1x512x256.size h).toLoadRect (xstg m ρ c)) shapeCasts_S1x512x256_S512x256

/-- The column of `x` a device's first block begins at. -/
def col0 (c : Dev nD) : Bool → Nat
  | true => (c.val + 7) % 8 * 512
  | false => (c.val + 1) % 8 * 512 + 256

theorem xoff0_eq : ∀ (c : Dev nD) (d : Bool), xoff0 c d = ![0, 0, col0 c d] := by decide +kernel
theorem first_inb (c : Dev nD) (d : Bool) (k : Fin 2) : ∀ a, (![0, 512 * k.val, col0 c d] : Fin 3 → Nat) a + S1x512x256.size a ≤ S1x1024x4096.size a := by
  revert c d k; decide +kernel

/-- The partial sum after `n` additions on device `c`, direction `d`, half `k`: its own block plus what came. -/
def acc (d : Bool) (k : Fin 2) : ℕ → Dev nD → FVec F S512x256 .f32
  | 0, c => xval m ρ c ![0, 512 * k.val, col0 c d] (first_inb c d k)
  | n + 1, c => addf (acc d k n (org d c)) (xval m ρ c (xoff c d (Fin.ofNat 7 n) k) (xoff_inb c d (Fin.ofNat 7 n) k))

/-! ## The schedule -/

/-- A region owned with some contents. -/
def anyReg (c : Dev nD) (e : Ev) : sProp 𝕄 := iprop(∃ X, owns (c : Thread nD τ) (reg e.1 (land e.2.1) e.2.2) fullShare X)

/-- The steps of one direction. -/
abbrev evs (d : Bool) : List Ev := [(d, 0, 0), (d, 0, 1), (d, 1, 0), (d, 1, 1), (d, 2, 0), (d, 2, 1), (d, 3, 0), (d, 3, 1), (d, 4, 0), (d, 4, 1),
  (d, 5, 0), (d, 5, 1), (d, 6, 0), (d, 6, 1)]

/-- What a barrier unit hands device `c`: the landing regions, in direction `d`, of the device it sends to. -/
def barPay (c : Dev nD) (d : Bool) : sProp 𝕄 := bigSepL (evs d) fun e => anyReg (dst d c) e
/-- What a receive hands over: the landing region at the partial sum of the device it came from. -/
def recvPay (c : Dev nD) (e : Ev) : sProp 𝕄 :=
  owns (c : Thread nD τ) (reg e.1 (land e.2.1) e.2.2) fullShare (acc m ρ e.1 e.2.2 e.2.1.val (org e.1 c))
/-- What a send hands back: the source region at this device's partial sum. -/
def sendPay (c : Dev nD) (e : Ev) : sProp 𝕄 :=
  owns (c : Thread nD τ) (reg e.1 (src e.2.1) e.2.2) fullShare (acc m ρ e.1 e.2.2 e.2.1.val c)

def pay (c : Dev nD) (d : Bool) : Option KI → sProp 𝕄
  | none => iprop(emp)
  | some (.inl _) => barPay c d
  | some (.inr (true, e)) => recvPay m ρ c e
  | some (.inr (false, e)) => sendPay m ρ c e

def duts : Option KI → Finset Bool
  | none => ∅
  | some (.inl _) => Finset.univ
  | some (.inr _) => {false}

def amt : Option KI → ℕ
  | some (.inl _) => 1
  | _ => N

/-- One round for every cell. -/
def ringRd : Rounds.Schedule (GSem nD τ sig) Bool 𝕄 where
  duties g r := if r = 0 ∧ g.1.2 = .tc then duts (dec g.2) else ∅
  unitless _ := False
  amount g _ _ := amt (dec g.2)
  payload g _ d := pay m ρ g.1.1 d (dec g.2)
  amount_pos g _ _ _ := by
    rcases dec g.2 with _ | _ | x
    exacts [N_pos, Nat.one_pos, N_pos]

omit [FloatOps F] in
instance bigSepL_storable {I : Type} (l : List I) (Φ : I → sProp 𝕄) [h : ∀ i, BI.Storable (upEmb : UEmb _ 𝕄) (Φ i)] :
    BI.Storable (upEmb : UEmb _ 𝕄) (bigSepL l Φ) := by
  induction l with
  | nil => show BI.Storable _ iprop(emp); infer_instance
  | cons a l ih => rw [bigSepL_cons']; infer_instance

omit [FloatOps F] in
instance anyReg_storable (c : Dev nD) (e : Ev) : BI.Storable (upEmb : UEmb _ 𝕄) (anyReg (F := F) c e) := by unfold anyReg; infer_instance

instance ringRd_payload_storable (g : GSem nD τ sig) (r : ℕ) (d : Bool) :
    BI.Storable (upEmb : UEmb _ 𝕄) ((ringRd (F := F) m ρ).payload g r d) := by
  show BI.Storable upEmb (pay m ρ g.1.1 d (dec g.2))
  rcases dec g.2 with _ | _ | ⟨b, e⟩
  · unfold pay; infer_instance
  · unfold pay barPay; infer_instance
  · cases b
    · unfold pay sendPay; infer_instance
    · unfold pay recvPay; infer_instance

section Sched
variable (c : Dev nD) (e : Ev) (d : Bool)

theorem duties_cell (x : KI) : (ringRd (F := F) m ρ).duties (cell c x) 0 = duts (some x) := by
  dsimp only [ringRd]; rw [if_pos ⟨rfl, rfl⟩, dec_csem]
theorem duties_later (g : GSem nD τ sig) : ∀ r, 1 ≤ r → (ringRd (F := F) m ρ).duties g r = ∅ :=
  fun r hr => by dsimp only [ringRd]; rw [if_neg fun h => by omega]
theorem amount_cell (x : KI) : (ringRd (F := F) m ρ).amount (cell c x) 0 d = amt (some x) := by
  dsimp only [ringRd]; rw [dec_csem]
theorem payload_cell (x : KI) : (ringRd (F := F) m ρ).payload (cell c x) 0 d = pay m ρ c d (some x) := by
  dsimp only [ringRd]; rw [dec_csem]

theorem expect_bar : (ringRd (F := F) m ρ).expect (barCell c) 0 = 2 := by
  unfold Schedule.expect Schedule.amountOf
  rw [duties_cell, Finset.sum_congr rfl fun d _ => amount_cell m ρ c d (.inl ())]
  rfl
theorem expect_dma (x : Bool × Ev) : (ringRd (F := F) m ρ).expect (cell c (.inr x)) 0 = N := by
  unfold Schedule.expect Schedule.amountOf
  rw [duties_cell]
  exact (Finset.sum_singleton _ _).trans (amount_cell m ρ c false (.inr x))

/-- All of a barrier cell's round: both neighbours' landing regions. -/
theorem rest_bar : bigSep ((ringRd (F := F) m ρ).duties (barCell c) 0 \ ∅) (fun d => (ringRd (F := F) m ρ).payload (barCell c) 0 d)
    = iprop(barPay c false ∗ barPay c true) := by
  rw [Finset.sdiff_empty, duties_cell]
  show bigSep Finset.univ _ = _
  rw [bigSep_univ_eq_bigSepL [false, true] (by decide) (by decide), bigSepL_cons_cons, bigSepL_singleton, payload_cell, payload_cell]
  rfl
/-- All of a transfer cell's round: its one payload. -/
theorem rest_dma (x : Bool × Ev) : bigSep ((ringRd (F := F) m ρ).duties (cell c (.inr x)) 0 \ ∅)
    (fun d => (ringRd (F := F) m ρ).payload (cell c (.inr x)) 0 d) = pay m ρ c false (some (.inr x)) := by
  rw [Finset.sdiff_empty, duties_cell]
  show bigSep {false} _ = _
  rw [bigSep_singleton, payload_cell]

end Sched

/-! ## Debts and levels -/

/-- What device `c` owes for a list of transfers: each target's receive cell the bytes. -/
def debt (c : Dev nD) : List Ev → CellTallies nD τ sig Unit
  | [] => 0
  | e :: l => debt c l + tallyAt (recvCell (dst e.1 c) e) () N

/-- What device `c` owes at launch: its transfers, and a unit to each neighbour's barrier. -/
def O₀ (c : Dev nD) : CellTallies nD τ sig Unit :=
  debt c alls + tallyAt (barCell (nxt c)) () 1 + tallyAt (barCell (prv c)) () 1

def L (g : GSem nD τ sig) : Finset Unit := if g.1.2 = .tc then {()} else ∅

def lvl : Option KI → ℕ
  | some (.inl _) => 1
  | some (.inr (true, e)) => e.2.1.val + 2
  | _ => 0
/-- The barrier at 1, the receives of round `s` at `s + 2`, the rest at 0. -/
def lv (g : GSem nD τ sig) (_ : Unit) : ℕ := lvl (dec g.2)

theorem L_of_ne (g : GSem nD τ sig) (h : g.1.2 ≠ .tc) : L g = ∅ := if_neg h
theorem L_tc (c : Dev nD) (sm : SemLoc sig) : L ((c : Thread nD τ), sm) = {()} := if_pos rfl
theorem lv_cell (c : Dev nD) (x : KI) (u : Unit) : lv (cell c x) u = lvl (some x) := by unfold lv; rw [dec_csem]

theorem tallyAt_pos {g g' : GSem nD τ sig} {n : ℕ} {u u' : Unit} (h : 0 < (tallyAt g u n : CellTallies nD τ sig Unit) g' u') : g' = g := by
  rw [tallyAt_apply] at h
  by_contra hn
  rw [if_neg fun h' => hn h'.1] at h
  exact Nat.lt_irrefl 0 h

theorem debt_pos {c : Dev nD} {l : List Ev} {g : GSem nD τ sig} {u : Unit} (h : 0 < debt c l g u) : ∃ e ∈ l, g = recvCell (dst e.1 c) e := by
  induction l with
  | nil => exact absurd h (Nat.lt_irrefl 0)
  | cons e l ih =>
    unfold debt at h
    rw [Pi.add_apply, Finsupp.add_apply] at h
    by_cases h1 : 0 < debt c l g u
    · obtain ⟨e', he', hg⟩ := ih h1
      exact ⟨e', List.mem_cons_of_mem _ he', hg⟩
    · rw [Nat.eq_zero_of_not_pos h1, Nat.zero_add] at h
      exact ⟨e, List.mem_cons_self, tallyAt_pos h⟩

theorem O₀_pos {c : Dev nD} {g : GSem nD τ sig} {u : Unit} (h : 0 < O₀ c g u) :
    (∃ e, g = recvCell (dst e.1 c) e) ∨ ∃ b, g = barCell b := by
  unfold O₀ at h
  rw [Pi.add_apply, Finsupp.add_apply, Pi.add_apply, Finsupp.add_apply] at h
  by_cases h1 : 0 < debt c alls g u
  · obtain ⟨e, -, hg⟩ := debt_pos h1; exact Or.inl ⟨e, hg⟩
  by_cases h2 : 0 < (tallyAt (barCell (nxt c)) () 1 : CellTallies nD τ sig Unit) g u
  · exact Or.inr ⟨_, tallyAt_pos h2⟩
  · rw [Nat.eq_zero_of_not_pos h1, Nat.eq_zero_of_not_pos h2, Nat.zero_add] at h
    exact Or.inr ⟨prv c, tallyAt_pos h⟩

omit [FloatOps F] in
/-- A device may wait on a cell while it owes transfers of later rounds. -/
theorem mayWait_debt (c : Dev nD) (x : KI) (l : List Ev) (h : ∀ e ∈ l, lvl (some x) < e.2.1.val + 2) :
    (levAts L lv : sProp 𝕄) ⊢ MayWait (c : Thread nD τ) (csem x) () (debt c l) :=
  MayOwe.of_cut (L := L) (lev := lv) (lvl (some x)) (fun p hp => by rw [Finset.mem_singleton.mp hp, L_tc]; exact Finset.mem_singleton_self _)
    (fun g u hg => by obtain ⟨e, -, rfl⟩ := debt_pos hg; exact Finset.mem_singleton_self _)
    (fun p hp => by rw [Finset.mem_singleton.mp hp]; exact (lv_cell c x ()).le)
    (fun g u hg => by obtain ⟨e, he, rfl⟩ := debt_pos hg; rw [lv_cell]; exact h e he)

omit [FloatOps F] in
/-- The staging semaphores, below every cell of the protocol, may be waited on at any time. -/
theorem mayWait_stage (c : Dev nD) (q : SemLoc sig) (hq : ∀ x, csem x ≠ q) (O : CellTallies nD τ sig Unit) (hO : O = O₀ c ∨ O = 0) :
    (levAts L lv : sProp 𝕄) ⊢ MayWait (c : Thread nD τ) q () O := by
  rcases hO with rfl | rfl
  · refine MayOwe.of_cut (L := L) (lev := lv) 0 (fun p hp => by rw [Finset.mem_singleton.mp hp, L_tc]; exact Finset.mem_singleton_self _)
      (fun g u hg => by rcases O₀_pos hg with ⟨e, rfl⟩ | ⟨b, rfl⟩ <;> exact Finset.mem_singleton_self _)
      (fun p hp => by
        rw [Finset.mem_singleton.mp hp]
        show lvl (dec q) ≤ 0
        unfold dec; rw [dif_neg fun ⟨x, hx⟩ => hq x hx]; exact le_rfl)
      (fun g u hg => by
        rcases O₀_pos hg with ⟨e, rfl⟩ | ⟨b, rfl⟩
        · rw [lv_cell]; exact Nat.succ_pos _
        · rw [lv_cell]; exact Nat.one_pos)
  · rw [MayWait_zero]; iintro -; iempintro

end Cert.KernelIdealProof

end
-- ==== Proof.KernelIdealStep.lean ====
/-
One step of the ring at a time: starting a transfer, waiting for one, and the rounds built from them.
-/
module

public import proofs.«01_k».proof.Proof.KernelIdealRing

@[expose] public section

noncomputable section

namespace Cert.KernelIdealProof

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (ρ : Dev nD → PrngReg)

abbrev 𝒱₀ : Variants := Variants.none

/-- Running `p` on device `c` ends in `Q`. -/
abbrev Run (c : Dev nD) (p : PG (F := F) PUnit) (Q : PUnit → sProp 𝕄) : sProp 𝕄 :=
  wp frame (wpE (defs₀ (F := F)) 𝒱₀ (c : Thread nD τ) none) Set.univ p Q

/-- Device `c` owes `O`, whatever it may wait on. -/
def ow (c : Dev nD) (O : CellTallies nD τ sig Unit) : sProp 𝕄 := iprop(∃ W : Waits sig Unit, owes (c : Thread nD τ) O W)

/-- Every cell's invariant, and that every cell is at its first round. -/
def records (K : Dev nD × KI → ℕ) : sProp 𝕄 :=
  bigSep Finset.univ fun p : Dev nD × KI => iprop(cellInv ER (ringRd m ρ) (K p) (cell p.1 p.2) ∗ reached ER (cell p.1 p.2) 0)

instance records_persistent (K : Dev nD × KI → ℕ) : BI.Persistent (records m ρ K) := by unfold records; infer_instance

theorem inv_at (K : Dev nD × KI → ℕ) (c : Dev nD) (x : KI) : records m ρ K ⊢ cellInv ER (ringRd m ρ) (K (c, x)) (cell c x) := by
  unfold records
  have h : iprop(cellInv ER (ringRd m ρ) (K (c, x)) (cell c x) ∗ reached ER (cell c x) 0) ⊢ cellInv ER (ringRd m ρ) (K (c, x)) (cell c x) := by
    iintro ⟨H, -⟩; iexact H
  exact (bigSep_elim (i := (c, x)) (Finset.mem_univ _)).trans h
theorem reached_at (K : Dev nD × KI → ℕ) (c : Dev nD) (x : KI) : records m ρ K ⊢ reached ER (cell c x) 0 := by
  unfold records
  have h : iprop(cellInv ER (ringRd m ρ) (K (c, x)) (cell c x) ∗ reached ER (cell c x) 0) ⊢ (reached ER (cell c x) 0 : sProp 𝕄) := by
    iintro ⟨-, H⟩; iexact H
  exact (bigSep_elim (i := (c, x)) (Finset.mem_univ _)).trans h

variable (K : Dev nD × KI → ℕ)

/-- A wait on one of the transfer cells takes its payload and closes the cell. -/
theorem wp_take (c : Dev nD) (x : Bool × Ev) (l : List Ev) {w : TpuEff nD τ sig (Elt F) Λ₀ .tc PUnit}
    (hw : ∀ Kt : PUnit → sProp 𝕄, wpE (defs₀ (F := F)) 𝒱₀ (c : Thread nD τ) none Set.univ w Kt = waitSpec (c : Thread nD τ) Set.univ (csem (.inr x)) N Kt)
    (hl : ∀ e ∈ l, lvl (some (.inr x)) < e.2.1.val + 2) {k : PUnit → PG (F := F) PUnit} {Q : PUnit → sProp 𝕄} :
    iprop(records m ρ K ∗ levAts L lv ∗ (cred (tallyAt (cell c (.inr x)) () N) ∗ atPos ER (cell c (.inr x)) 0 ∅ 0) ∗ ow c (debt c l))
      ⊢ iprop(((ow c (debt c l) ∗ semVal (cell c (.inr x)) 0 ∗ pay m ρ c false (some (.inr x))) -∗ Run c (k ⟨⟩) Q) -∗ Run c (.op w k) Q) := by
  unfold ow
  iintro ⟨#HR, #Hlev, ⟨Hc, Hat⟩, ⟨%W, HO⟩⟩ Hk
  ihave #HI := (inv_at m ρ K c (.inr x)) $$ HR
  iapply (Rounds.wp_wait_rest_token 𝒱₀ ER (ringRd m ρ) (c : Thread nD τ) none (κ := K (c, .inr x)) hw (Set.mem_univ _) ()
      (O := debt c l) (W := W) (R := 0) (m := 0) (T := ∅) (by rw [Nat.zero_add]; exact (expect_dma m ρ c x).symm)) $$ [Hc HO Hat]
  · isplitr; · iexact HI
    isplitl [Hc]; · iexact Hc
    isplitl [HO]; · iexact HO
    isplitr; · iapply (mayWait_debt c (.inr x) l hl); iexact Hlev
    iexact Hat
  iintro ⟨HO, Hat, -, Hpay⟩
  ihave Hp := (Entails.of_eq (rest_dma m ρ c x)) $$ Hpay
  imod (Rounds.cell_close ER (ringRd m ρ) (Set.mem_univ (K (c, .inr x))) (fun h => h) (R := 0 + 1) (duties_later m ρ (cell c (.inr x)))) $$ [Hat] with Hz
  · isplitr; · iexact HI
    iexact Hat
  iapply Hk
  isplitl [HO]; · iexists _; iexact HO
  isplitl [Hz] <;> iassumption

/-- Starting a transfer: the source region and the target's landing region go, credit to wait for the source comes. -/
theorem wp_start (c : Dev nD) (e : Ev) (l : List Ev) (Q : PUnit → sProp 𝕄) :
    iprop(records m ρ K ∗ sendPay m ρ c e ∗ anyReg (dst e.1 c) e ∗ (dutyTok ER (sendCell c e) 0 false ∗ dutyTok ER (recvCell (dst e.1 c) e) 0 false)
        ∗ ow c (debt c (e :: l)) ∗ ((cred (tallyAt (sendCell c e) () N) ∗ ow c (debt c l)) -∗ Q ⟨⟩))
      ⊢ Run c (sendOp c e) Q := by
  unfold ow sendPay anyReg sendOp owns
  iintro ⟨#HR, ⟨%fs, %hfs, Hs⟩, ⟨%X, %fd, %hfd, Hd⟩, ⟨Ht1, Ht2⟩, ⟨%W, HO⟩, Hk⟩
  ihave #HI1 := (inv_at m ρ K c (.inr (false, e))) $$ HR
  ihave #HI2 := (inv_at m ρ K (dst e.1 c) (.inr (true, e))) $$ HR
  ihave #Hr1 := (reached_at m ρ K c (.inr (false, e))) $$ HR
  ihave #Hr2 := (reached_at m ρ K (dst e.1 c) (.inr (true, e))) $$ HR
  unfold Run Prog.lift
  iapply (Rounds.wp_send_pointsTo 𝒱₀ ER (ringRd m ρ) (c : Thread nD τ) none (κ₁ := K (c, .inr (false, e))) (κ₂ := K (dst e.1 c, .inr (true, e)))
    (r₁ := 0) (r₂ := 0) (d₁ := false) (d₂ := false) (fs := fs) (fd := fd)
    (by exact (duties_cell m ρ c (.inr (false, e))).symm ▸ Finset.mem_singleton_self false)
    (by exact (duties_cell m ρ (dst e.1 c) (.inr (true, e))).symm ▸ Finset.mem_singleton_self false)
    () () N (by exact reg_credit e.1 (land e.2.1) e.2.2) (amount_cell m ρ c false (.inr (false, e))) (amount_cell m ρ (dst e.1 c) false (.inr (true, e)))
    (debt c l) rfl (W := W)
    (by
      refine BIBase.Entails.trans ?_ (Entails.of_eq (payload_cell m ρ c false (.inr (false, e))).symm)
      unfold pay sendPay owns
      iintro H; iexists fs; isplitr; · ipureintro; exact hfs
      iexact H)
    (by
      refine BIBase.Entails.trans ?_ (Entails.of_eq (payload_cell m ρ (dst e.1 c) false (.inr (true, e))).symm)
      unfold pay recvPay owns
      iintro H; iexists _; isplitr
      rotate_left
      · iexact H
      · ipureintro; rw [View.read_write_univ, hfs, org_dst])) $$ [Hs Hd HO Ht1 Ht2]
  · isplitr; · iexact HI1
    isplitr; · iexact HI2
    isplitl [Hs]; · iexact Hs
    isplitl [Hd]; · iexact Hd
    isplitl [HO]; · iexact HO
    isplitl [Ht1]; · iexact Ht1
    isplitr; · iexact Hr1
    isplitl [Ht2]; · iexact Ht2
    iexact Hr2
  iintro ⟨Hc, HO⟩
  iapply le_wp_ret
  iapply Hk
  isplitl [Hc]; · iexact Hc
  iexists W; iexact HO

end Cert.KernelIdealProof

end
-- ==== Proof.KernelIdealData.lean ====
/-
What the loads and stores of the ring read and leave, and the scratch buffers cut into regions.
-/
module

public import proofs.«01_k».proof.Proof.KernelIdealRing
public import Idealize.ShloMosaic.Lib.Pipeline.Value
public import Idealize.ShloMosaic.Lib.Ring
public import Idealize.ShloMosaic.Lib.ViewIndex

@[expose] public section

noncomputable section

namespace Cert.KernelIdealProof

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Ring (pointsTo_blocks pointsTo_blocks_join_exists pointsTo_sub_blocks)

variable {F : FTy → Type} [FloatOps F]

local notation "𝕄" => MT nD τ sig Unit (Elt F) ℕ UU ℕ

variable (m : (ℓ : Loc nD τ sig) → Buf (Elt F) ℓ) (ρ : Dev nD → PrngReg)

/-! ## Contents -/

/-- The contents of a scratch buffer, as its view has them. -/
abbrev ScrC (d : Bool) : Type := (scr d).view.ty.Contents (Elt F)

theorem reg_set (d : Bool) (j : Fin 8) (k : Fin 2) : (reg d j k).view.set = ((scr d).access (half j k)).set := View.set_reshape _ _

/-- What a load of a region's elements reads, its unit axis dropped, is what the region holds. -/
theorem read_half (d : Bool) (j : Fin 8) (k : Fin 2) (f : ScrC (F := F) d) :
    shapeCast S512x256 (((scr d).access (half j k)).read (Elt F) f) shapeCasts_S1x512x256_S512x256 = (reg d j k).view.read (Elt F) f := rfl

/-- A region holds what was stored over its elements. -/
theorem read_store_half (d : Bool) (j : Fin 8) (k : Fin 2) (f : ScrC (F := F) d) (v : FVec F S512x256 .f32) :
    (reg d j k).view.read (Elt F) (((scr d).access (half j k)).write (Elt F) f (shapeCast S1x512x256 v shapeCasts_S512x256_S1x512x256) Finset.univ) = v := by
  rw [← read_half, View.read_write_univ]
  exact shapeCast_shapeCast v _ _

theorem ofNat_val (s : Fin 7) : Fin.ofNat 7 s.val = s := by revert s; decide

/-- One more addition. -/
theorem acc_succ (d : Bool) (s : Fin 7) (k : Fin 2) (c : Dev nD) :
    acc m ρ d k (s.val + 1) c = addf (acc m ρ d k s.val (org d c)) (xval m ρ c (xoff c d s k) (xoff_inb c d s k)) := by
  show addf (acc m ρ d k s.val (org d c)) (xval m ρ c (xoff c d (Fin.ofNat 7 s.val) k) (xoff_inb c d (Fin.ofNat 7 s.val) k)) = _
  rw [show xval m ρ c (xoff c d (Fin.ofNat 7 s.val) k) (xoff_inb c d (Fin.ofNat 7 s.val) k) = xval m ρ c (xoff c d s k) (xoff_inb c d s k) by
    have h := ofNat_val s
    generalize Fin.ofNat 7 s.val = t at h
    subst h; rfl]

/-- The sum a step forms from the partial sum it received and its block of the input. -/
theorem sumOf_eq (c : Dev nD) (e : Ev) (f : ScrC (F := F) e.1)
    (hf : (reg e.1 (land e.2.1) e.2.2).view.read (Elt F) f = acc m ρ e.1 e.2.2 e.2.1.val (org e.1 c)) :
    sumOf (((scr e.1).access (half (land e.2.1) e.2.2)).read (Elt F) f) ((xM.access (xblk c e.1 e.2.1 e.2.2)).read (Elt F) (xstg m ρ c))
      = acc m ρ e.1 e.2.2 (e.2.1.val + 1) c := by
  rw [acc_succ, ← hf]
  rfl

theorem src_up (s : Fin 7) (h : s.val < 6) : src (s + 1) = land s ∧ (s + 1).val = s.val + 1 := by
  revert s; decide

/-- The index of slot 7 under an index of one of its halves. -/
def inSlot (k : Fin 2) (z : S1x512x256.Idx) : S1x1024x256.Idx :=
  fun a => match a with
    | ⟨0, _⟩ => ⟨0, Nat.one_pos⟩
    | ⟨1, _⟩ => ⟨512 * k.val + (z 1).val, by have := (z 1).isLt; have h : S1x512x256.size 1 = 512 := rfl; have h' : S1x1024x256.size 1 = 1024 := rfl; have := k.isLt; show _ < S1x1024x256.size 1; omega⟩
    | ⟨2, _⟩ => ⟨(z 2).val, (z 2).isLt⟩

/-- After the first store each half of slot 7 holds this device's block. -/
theorem read_seed (c : Dev nD) (d : Bool) (k : Fin 2) (f : ScrC (F := F) d) :
    (reg d 7 k).view.read (Elt F) (((scr d).access slot7).write (Elt F) f (k0_pay1 ((xM.access (xblk0 c d)).read (Elt F) (xstg m ρ c))) Finset.univ)
      = acc m ρ d k 0 c := by
  have hp : ∀ a : Vec F S1x1024x256 .f32, k0_pay1 a = a := fun a => shapeCast_shapeCast a _ _
  rw [hp]
  funext x
  generalize hz : Shape.reshapeEquiv shapeCasts_S1x512x256_S512x256 x = z
  have h0 : (z 0).val = 0 := by have := (z 0).isLt; change _ < 1 at this; omega
  have h1 : (half 7 k).emb z = slot7.emb (inSlot k z) := by
    funext a; apply Fin.ext
    fin_cases a
    · show 7 + 1 * (z 0).val = 7 + 1 * 0; omega
    · show 512 * k.val + 1 * (z 1).val = 0 + 1 * (512 * k.val + (z 1).val); omega
    · rfl
  have h2 : (xblk0 c d).emb (inSlot k z) = (Rect.unit (s := S1x1024x4096) ![0, 512 * k.val, col0 c d] S1x512x256.size (first_inb c d k)).emb z := by
    funext a; apply Fin.ext
    fin_cases a
    · show xoff0 c d 0 + 1 * 0 = 0 + 1 * (z 0).val; rw [xoff0_eq]; show 0 + 1 * 0 = 0 + 1 * (z 0).val; omega
    · show xoff0 c d 1 + 1 * (512 * k.val + (z 1).val) = 512 * k.val + 1 * (z 1).val; rw [xoff0_eq]; show 0 + 1 * (512 * k.val + (z 1).val) = _; omega
    · show xoff0 c d 2 + 1 * (z 2).val = col0 c d + 1 * (z 2).val; rw [xoff0_eq]; rfl
  have h3 := View.read_write_of_mem (v := ((scr d).access slot7)) (Val := Elt F) f ((xM.access (xblk0 c d)).read (Elt F) (xstg m ρ c)) (Finset.mem_univ (inSlot k z))
  show (scr d).view.read (Elt F) _ ((half 7 k).emb (Shape.reshapeEquiv shapeCasts_S1x512x256_S512x256 x)) = xM.view.read (Elt F) (xstg m ρ c)
    ((Rect.unit (s := S1x1024x4096) ![0, 512 * k.val, col0 c d] S1x512x256.size (first_inb c d k)).emb (Shape.reshapeEquiv shapeCasts_S1x512x256_S512x256 x))
  rw [hz, h1, ← h2]
  exact h3

/-! ## Cutting a scratch buffer -/

/-- Half `b.2` of slot `b.1`, as elements of the buffer. -/
abbrev blk (d : Bool) (c : Dev nD) (b : Fin 8 × Fin 2) : Finset (Idx ((scr d).view.loc (c : Thread nD τ))) := (reg d b.1 b.2).view.set

theorem half_disjoint {b b' : Fin 8 × Fin 2} (h : b ≠ b') : Disjoint (half b.1 b.2).set (half b'.1 b'.2).set := by
  rw [Finset.disjoint_left]
  intro i hi hi'
  rw [Rect.mem_set_unit] at hi hi'
  have h0 := hi 0; have h1 := hi 1; have h0' := hi' 0; have h1' := hi' 1
  apply h
  have e0 : S1x512x256.size 0 = 1 := rfl
  have e1 : S1x512x256.size 1 = 512 := rfl
  simp only [Matrix.cons_val_zero, Matrix.cons_val_one, e0, e1] at h0 h1 h0' h1'
  refine Prod.ext (Fin.ext ?_) (Fin.ext ?_) <;> omega

theorem blk_disjoint (d : Bool) (c : Dev nD) (b b' : Fin 8 × Fin 2) (h : b ≠ b') : Disjoint (blk d c b) (blk d c b') := by
  unfold blk; rw [reg_set, reg_set]
  exact View.disjoint_slice (half_disjoint h)

theorem half_cover (i : S8x1024x256.Idx) : ∃ b : Fin 8 × Fin 2, i ∈ (half b.1 b.2).set := by
  have l0 : (i 0).val < 8 := (i 0).isLt
  have l1 : (i 1).val < 1024 := (i 1).isLt
  have l2 : (i 2).val < 256 := (i 2).isLt
  refine ⟨(⟨(i 0).val, l0⟩, ⟨(i 1).val / 512, by omega⟩), ?_⟩
  rw [Rect.mem_set_unit]
  intro a
  fin_cases a
  · show (i 0).val ≤ (i 0).val ∧ (i 0).val < (i 0).val + 1; omega
  · show 512 * ((i 1).val / 512) ≤ (i 1).val ∧ (i 1).val < 512 * ((i 1).val / 512) + 512; omega
  · show 0 ≤ (i 2).val ∧ (i 2).val < 0 + 256; omega

theorem blk_cover (d : Bool) (c : Dev nD) : Finset.univ.biUnion (blk d c) = Finset.univ := by
  refine Finset.eq_univ_iff_forall.mpr fun i => Finset.mem_biUnion.mpr ?_
  cases d
  · obtain ⟨b, hb⟩ := half_cover i
    refine ⟨b, Finset.mem_univ _, ?_⟩
    unfold blk; rw [reg_set]
    exact (View.set_slice_whole cc0_scratch1 (half b.1 b.2)).symm ▸ hb
  · obtain ⟨b, hb⟩ := half_cover i
    refine ⟨b, Finset.mem_univ _, ?_⟩
    unfold blk; rw [reg_set]
    exact (View.set_slice_whole cc0_scratch0 (half b.1 b.2)).symm ▸ hb

/-- The elements of slot 7. -/
abbrev top (d : Bool) (c : Dev nD) : Finset (Idx ((scr d).view.loc (c : Thread nD τ))) := ((scr d).access slot7).set

theorem slot7_eq : Finset.univ.biUnion (fun k : Fin 2 => (half 7 k).set) = slot7.set := by
  ext i
  have l0 : (i 0).val < 8 := (i 0).isLt
  have l1 : (i 1).val < 1024 := (i 1).isLt
  have l2 : (i 2).val < 256 := (i 2).isLt
  rw [Finset.mem_biUnion, Rect.mem_set_unit]
  constructor
  · rintro ⟨k, -, hk⟩
    rw [Rect.mem_set_unit] at hk
    intro a
    fin_cases a
    · exact hk 0
    · show 0 ≤ (i 1).val ∧ (i 1).val < 0 + 1024; omega
    · exact hk 2
  · intro h
    refine ⟨⟨(i 1).val / 512, by omega⟩, Finset.mem_univ _, ?_⟩
    rw [Rect.mem_set_unit]
    intro a
    fin_cases a
    · exact h 0
    · show 512 * ((i 1).val / 512) ≤ (i 1).val ∧ (i 1).val < 512 * ((i 1).val / 512) + 512; omega
    · exact h 2

theorem top_eq (d : Bool) (c : Dev nD) : Finset.univ.biUnion (fun k : Fin 2 => blk d c (7, k)) = top d c := by
  have hb : ∀ (k : Fin 2) (i : Idx ((scr d).view.loc (c : Thread nD τ))), i ∈ blk d c (7, k) ↔ i ∈ (half 7 k).set.map (scr d).view.emb := fun k i => by
    unfold blk; rw [reg_set, View.set_slice]
  have ht : ∀ i : Idx ((scr d).view.loc (c : Thread nD τ)), i ∈ top d c ↔ i ∈ slot7.set.map (scr d).view.emb := fun i => by
    unfold top; rw [View.set_slice]
  refine Finset.ext fun i => (Finset.mem_biUnion.trans ?_).trans (ht i).symm
  rw [← slot7_eq]
  constructor
  · rintro ⟨k, hk, hi⟩
    obtain ⟨x, hx, rfl⟩ := Finset.mem_map.mp ((hb k i).mp hi)
    exact Finset.mem_map.mpr ⟨x, Finset.mem_biUnion.mpr ⟨k, hk, hx⟩, rfl⟩
  · intro hi
    obtain ⟨x, hx, rfl⟩ := Finset.mem_map.mp hi
    obtain ⟨k, hk, hx⟩ := Finset.mem_biUnion.mp hx
    exact ⟨k, hk, (hb k _).mpr (Finset.mem_map.mpr ⟨x, hx, rfl⟩)⟩

/-- A region of device `c`'s scratch, with some contents. -/
def anyAt (c : Dev nD) (x : Bool × Fin 8 × Fin 2) : sProp 𝕄 := iprop(∃ X, owns (c : Thread nD τ) (reg x.1 x.2.1 x.2.2) fullShare X)

omit [FloatOps F] in
theorem anyReg_eq (c : Dev nD) (e : Ev) : (anyReg (F := F) c e : sProp 𝕄) = anyAt c (e.1, land e.2.1, e.2.2) := rfl

/-- The half slots transfers land in. -/
abbrev lands : List (Fin 8 × Fin 2) := [(0, 0), (0, 1), (1, 0), (1, 1), (2, 0), (2, 1), (3, 0), (3, 1), (4, 0), (4, 1), (5, 0), (5, 1), (6, 0), (6, 1)]

omit [FloatOps F] in
/-- Elements held are a region held with some contents. -/
theorem anyAt_intro (c : Dev nD) (d : Bool) (b : Fin 8 × Fin 2) (f : Buf (Elt F) ((scr d).view.loc (c : Thread nD τ))) :
    ((scr d).view.loc (c : Thread nD τ) ↦[blk d c b]{fullShare} f : sProp 𝕄) ⊢ anyAt c (d, b.1, b.2) := by
  unfold anyAt owns
  iintro H
  iexists (reg d b.1 b.2).view.read (Elt F) f
  iexists f
  isplitr; · ipureintro; rfl
  iexact H

omit [FloatOps F] in
/-- A region held with some contents is its elements held. -/
theorem anyAt_elim (c : Dev nD) (d : Bool) (b : Fin 8 × Fin 2) :
    (anyAt c (d, b.1, b.2) : sProp 𝕄) ⊢ iprop(∃ f : Buf (Elt F) ((scr d).view.loc (c : Thread nD τ)), (scr d).view.loc (c : Thread nD τ) ↦[blk d c b]{fullShare} f) := by
  unfold anyAt owns
  iintro ⟨%X, %f, -, H⟩
  iexists f; iexact H

omit [FloatOps F] in
/-- A whole scratch buffer is slot 7 and the landing regions. -/
theorem scr_split (c : Dev nD) (d : Bool) (f : Buf (Elt F) ((scr d).view.loc (c : Thread nD τ))) :
    ((scr d).view.loc (c : Thread nD τ) ↦{fullShare} f : sProp 𝕄)
      ⊢ iprop(((scr d).view.loc (c : Thread nD τ) ↦[top d c]{fullShare} f) ∗ bigSepL (evs d) fun e => anyReg c e) := by
  rw [pointsTo_blocks (blk d c) (blk_disjoint d c) (blk_cover d c) f,
    pointsTo_sub_blocks (fun k : Fin 2 => blk d c (7, k)) (fun k k' h => blk_disjoint d c _ _ fun e => h (congrArg Prod.snd e)) (top d c) (top_eq d c) f,
    bigSep_univ_eq_bigSepL ([(7, 0), (7, 1)] ++ lands) (by decide) (by decide), bigSepL_append, bigSep_univ_eq_bigSepL [0, 1] (by decide) (by decide)]
  have h : bigSepL lands (fun b => ((scr d).view.loc (c : Thread nD τ) ↦[blk d c b]{fullShare} f : sProp 𝕄)) ⊢ bigSepL (evs d) fun e => anyReg c e :=
    show _ ⊢ bigSepL lands (fun b => anyAt c (d, b.1, b.2)) from bigSepL_mono fun b _ => anyAt_intro c d b f
  iintro ⟨H1, H2⟩
  isplitl [H1]; · iexact H1
  iapply h; iexact H2

omit [FloatOps F] in
/-- All the regions of a scratch buffer make it whole. -/
theorem scr_join (c : Dev nD) (d : Bool) (f₀ : Buf (Elt F) ((scr d).view.loc (c : Thread nD τ))) :
    bigSep Finset.univ (fun b : Fin 8 × Fin 2 => anyAt c (d, b.1, b.2))
      ⊢ (iprop(∃ f : Buf (Elt F) ((scr d).view.loc (c : Thread nD τ)), (scr d).view.loc (c : Thread nD τ) ↦{fullShare} f) : sProp 𝕄) :=
  (bigSep_mono fun b _ => anyAt_elim c d b).trans (pointsTo_blocks_join_exists (blk d c) (blk_disjoint d c) (blk_cover d c) f₀)

omit [FloatOps F] in
/-- Slot 7 in halves. -/
theorem top_halves (c : Dev nD) (d : Bool) (f : Buf (Elt F) ((scr d).view.loc (c : Thread nD τ))) :
    ((scr d).view.loc (c : Thread nD τ) ↦[top d c]{fullShare} f : sProp 𝕄)
      ⊢ iprop(owns (c : Thread nD τ) (reg d 7 0) fullShare ((reg d 7 0).view.read (Elt F) f) ∗ owns (c : Thread nD τ) (reg d 7 1) fullShare ((reg d 7 1).view.read (Elt F) f)) := by
  rw [pointsTo_sub_blocks (fun k : Fin 2 => blk d c (7, k)) (fun k k' h => blk_disjoint d c _ _ fun e => h (congrArg Prod.snd e)) (top d c) (top_eq d c) f,
    bigSep_univ_eq_bigSepL [0, 1] (by decide) (by decide)]
  have h : ∀ k : Fin 2, ((scr d).view.loc (c : Thread nD τ) ↦[blk d c (7, k)]{fullShare} f : sProp 𝕄)
      ⊢ owns (c : Thread nD τ) (reg d 7 k) fullShare ((reg d 7 k).view.read (Elt F) f) := fun k => owns_intro (c : Thread nD τ) (reg d 7 k) fullShare f
  exact BI.sep_mono (h 0) (h 1)

end Cert.KernelIdealProof

end
-- ==== Proof.KernelIdealBody.lean ====
/-
The rounds of the ring along their lists of steps, and the whole body.
-/
module

public import proofs.«01_k».proof.Proof.KernelIdealStep
public import proofs.«01_k».proof.Proof.KernelIdealData

@[expose] public section

noncomputable section

namespace Cert.KernelIdealProof

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (ρ : Dev nD → PrngReg)

/-! ## The output -/

abbrev OutC : Type := (cc0_stg1_0 : Ref sig .tc).ty.Contents (Elt F)

/-- Storing a finished quadrant. -/
def wr (c : Dev nD) (f : OutC (F := F)) (e : Ev) : OutC (F := F) :=
  (oM.access (quad e.1 e.2.2)).write (Elt F) f (acc m ρ e.1 e.2.2 7 c) Finset.univ

theorem row_lt (i : S1024x512.Idx) : (i 0).val < 1024 := (i 0).isLt
theorem col_lt (i : S1024x512.Idx) : (i 1).val < 512 := (i 1).isLt

/-- The kernel's result on device `c`: each quadrant its direction's last partial sum. -/
def outAt (c : Dev nD) : OutC (F := F) := fun i : S1024x512.Idx =>
  acc m ρ (decide ((i 1).val < 256)) ⟨(i 0).val / 512, by have := row_lt i; omega⟩ 7 c
    (fun a => match a with
      | ⟨0, _⟩ => ⟨(i 0).val % 512, Nat.mod_lt _ (by decide)⟩
      | ⟨1, _⟩ => ⟨(i 1).val % 256, Nat.mod_lt _ (by decide)⟩)

/-- Inside its quadrant a finished sum is the result. -/
theorem outAt_quad (c : Dev nD) (d : Bool) (k : Fin 2) (x : S512x256.Idx) : outAt m ρ c ((quad d k).emb x) = acc m ρ d k 7 c x := by
  have x0 : (x 0).val < 512 := (x 0).isLt
  have x1 : (x 1).val < 256 := (x 1).isLt
  have r0 : (((quad d k).emb x) 0).val = 512 * k.val + 1 * (x 0).val := rfl
  have r1 : (((quad d k).emb x) 1).val = (if d then 0 else 256) + 1 * (x 1).val := rfl
  unfold outAt
  have hd : decide ((((quad d k).emb x) 1).val < 256) = d := by
    rw [r1]; cases d
    · exact decide_eq_false (by simp)
    · exact decide_eq_true (by simp; omega)
  have hk : (((quad d k).emb x) 0).val / 512 = k.val := by rw [r0]; omega
  have h0 : (((quad d k).emb x) 0).val % 512 = (x 0).val := by rw [r0]; omega
  have h1 : (((quad d k).emb x) 1).val % 256 = (x 1).val := by
    rw [r1]; cases d
    · show (256 + 1 * (x 1).val) % 256 = _; omega
    · show (0 + 1 * (x 1).val) % 256 = _; omega
  simp only [hd, hk]
  refine congrArg (acc m ρ d k 7 c) (funext fun a => ?_)
  fin_cases a
  · exact Fin.ext h0
  · exact Fin.ext h1

theorem wr_apply (c : Dev nD) (f : OutC (F := F)) (e : Ev) (i : S1024x512.Idx) :
    wr m ρ c f e i = if i ∈ (quad e.1 e.2.2).set then outAt m ρ c i else f i := by
  unfold wr
  by_cases h : i ∈ (quad e.1 e.2.2).set
  · rw [if_pos h]
    rw [← Rect.map_emb_univ] at h
    obtain ⟨x, -, rfl⟩ := Finset.mem_map.mp h
    rw [outAt_quad]
    exact View.write_emb_of_mem (v := oM.access (quad e.1 e.2.2)) (Val := Elt F) f _ (Finset.mem_univ x)
  · rw [if_neg h]
    refine View.write_of_not_mem (v := oM.access (quad e.1 e.2.2)) (Val := Elt F) f _ _ fun h' => h ?_
    rw [View.setOn_univ] at h'
    exact (View.set_slice_whole cc0_stg1_0 (quad e.1 e.2.2)) ▸ h'

theorem wrs_apply (c : Dev nD) (l : List Ev) (f : OutC (F := F)) (i : S1024x512.Idx)
    (h : f i = outAt m ρ c i ∨ ∃ e ∈ l, i ∈ (quad e.1 e.2.2).set) : l.foldl (wr m ρ c) f i = outAt m ρ c i := by
  induction l generalizing f with
  | nil =>
    rcases h with h | ⟨e, he, -⟩
    · exact h
    · cases he
  | cons e l ih =>
    refine ih (wr m ρ c f e) ?_
    rw [wr_apply]
    by_cases hi : i ∈ (quad e.1 e.2.2).set
    · exact Or.inl (if_pos hi)
    · rw [if_neg hi]
      rcases h with h | ⟨e', he', hi'⟩
      · exact Or.inl h
      · rcases List.mem_cons.mp he' with rfl | he'
        · exact absurd hi' hi
        · exact Or.inr ⟨e', he', hi'⟩

/-- The four stores of the last round fill the output. -/
theorem wrs_eq (c : Dev nD) (f : OutC (F := F)) : (round 6).foldl (wr m ρ c) f = outAt m ρ c := by
  funext i
  refine wrs_apply m ρ c (round 6) f i (Or.inr ?_)
  have l0 := row_lt i
  have l1 := col_lt i
  have hmem : ∀ (d : Bool) (k : Fin 2), (d, (6 : Fin 7), k) ∈ round 6 := by decide
  refine ⟨(decide ((i 1).val < 256), 6, ⟨(i 0).val / 512, by omega⟩), hmem _ _, ?_⟩
  rw [Rect.mem_set_unit]
  intro a
  fin_cases a
  · show 512 * ((i 0).val / 512) ≤ (i 0).val ∧ (i 0).val < 512 * ((i 0).val / 512) + 512; omega
  · show (if decide ((i 1).val < 256) then 0 else 256) ≤ (i 1).val ∧ (i 1).val < (if decide ((i 1).val < 256) then 0 else 256) + 256
    by_cases h : (i 1).val < 256
    · rw [decide_eq_true h]; simp; omega
    · rw [decide_eq_false h]; simp; omega

/-! ## The rounds -/

/-- The staged input, held whole. -/
abbrev xPts (c : Dev nD) : sProp 𝕄 := (xM.view.loc (c : Thread nD τ) ↦{fullShare} (show Buf (Elt F) (xM.view.loc (c : Thread nD τ)) from xstg m ρ c))
/-- The staged output, held whole. -/
abbrev oPts (c : Dev nD) (f : OutC (F := F)) : sProp 𝕄 := (oM.view.loc (c : Thread nD τ) ↦{fullShare} (show Buf (Elt F) (oM.view.loc (c : Thread nD τ)) from f))

/-- What a device needs to wait for an arrival. -/
def recvRes (c : Dev nD) (e : Ev) : sProp 𝕄 := iprop(cred (tallyAt (recvCell c e) () N) ∗ atPos ER (recvCell c e) 0 ∅ 0)
/-- The two duty tokens of a transfer. -/
def toks (c : Dev nD) (e : Ev) : sProp 𝕄 := iprop(dutyTok ER (sendCell c e) 0 false ∗ dutyTok ER (recvCell (dst e.1 c) e) 0 false)
/-- The credit to wait for a transfer to have left. -/
def credS (c : Dev nD) (e : Ev) : sProp 𝕄 := cred (tallyAt (sendCell c e) () N)
/-- The position at a send cell. -/
def posS (c : Dev nD) (e : Ev) : sProp 𝕄 := atPos ER (sendCell c e) 0 ∅ 0
/-- A receive cell closed. -/
def zeroR (c : Dev nD) (e : Ev) : sProp 𝕄 := semVal (recvCell c e) 0
/-- A send cell closed. -/
def zeroS (c : Dev nD) (e : Ev) : sProp 𝕄 := semVal (sendCell c e) 0

variable (K : Dev nD × KI → ℕ)

/-- The first round's transfers. -/
theorem send_all (c : Dev nD) (l l' : List Ev) (Q : PUnit → sProp 𝕄) :
    iprop(records m ρ K ∗ bigSepL l (sendPay m ρ c) ∗ bigSepL l (fun e => anyReg (dst e.1 c) e) ∗ bigSepL l (toks c) ∗ ow c (debt c (l ++ l'))
        ∗ ((bigSepL l (credS c) ∗ ow c (debt c l')) -∗ Q ⟨⟩))
      ⊢ Run c (each (sendOp c) l) Q := by
  induction l with
  | nil =>
    iintro ⟨-, -, -, -, HO, Hk⟩
    iapply le_wp_ret
    iapply Hk
    isplitr; · rw [bigSepL_nil]; iempintro
    iexact HO
  | cons e l ih =>
    rw [bigSepL_cons', bigSepL_cons', bigSepL_cons', bigSepL_cons']
    unfold each Run
    rw [wp_bind]
    iintro ⟨#HR, ⟨Hp, Hps⟩, ⟨Ha, Has⟩, ⟨Ht, Hts⟩, HO, Hk⟩
    iapply (wp_start m ρ K c e (l ++ l'))
    isplitr; · iexact HR
    isplitl [Hp]; · iexact Hp
    isplitl [Ha]; · iexact Ha
    isplitl [Ht]; · unfold toks; iexact Ht
    isplitl [HO]; · iexact HO
    iintro ⟨Hc, HO⟩
    iapply ih
    isplitr; · iexact HR
    isplitl [Hps]; · iexact Hps
    isplitl [Has]; · iexact Has
    isplitl [Hts]; · iexact Hts
    isplitl [HO]; · iexact HO
    iintro ⟨Hcs, HO⟩
    iapply Hk
    isplitl [Hc Hcs]
    · isplitl [Hc]; · unfold credS; iexact Hc
      iexact Hcs
    iexact HO

/-- The wait for an arrival, as the kernel writes it. -/
theorem recv_wait (c : Dev nD) (e : Ev) (Kt : PUnit → sProp 𝕄) :
    wpE (defs₀ (F := F)) 𝒱₀ (c : Thread nD τ) none Set.univ (.waitDma2 (semAt (rsems e.1) e.2.1 e.2.2) (reg e.1 (src e.2.1) e.2.2) (reg e.1 (land e.2.1) e.2.2)
      ((View.wordExact_bits rfl).reshape _ _) ((View.wordExact_bits rfl).reshape _ _)) Kt
      = waitSpec (c : Thread nD τ) Set.univ (csem (.inr (true, e))) N Kt := by
  rw [wpE_waitDma2_eq, reg_credit]; rfl
/-- The wait for a transfer to have left, as the kernel writes it. -/
theorem sent_wait (c : Dev nD) (e : Ev) (Kt : PUnit → sProp 𝕄) :
    wpE (defs₀ (F := F)) 𝒱₀ (c : Thread nD τ) none Set.univ (.waitDma2 (semAt (ssems e.1) e.2.1 e.2.2) (reg e.1 (land e.2.1) e.2.2) (reg e.1 (src e.2.1) e.2.2)
      ((View.wordExact_bits rfl).reshape _ _) ((View.wordExact_bits rfl).reshape _ _)) Kt
      = waitSpec (c : Thread nD τ) Set.univ (csem (.inr (false, e))) N Kt := by
  rw [wpE_waitDma2_eq, reg_credit]; rfl

/-- One middle round. -/
theorem wp_hop (c : Dev nD) (e : Ev) (l : List Ev) (he : e.2.1.val < 6) (hl : ∀ e' ∈ up e :: l, e.2.1.val < e'.2.1.val) (Q : PUnit → sProp 𝕄) :
    iprop(records m ρ K ∗ levAts L lv ∗ xPts m ρ c ∗ recvRes c e ∗ anyReg (dst (up e).1 c) (up e) ∗ toks c (up e) ∗ ow c (debt c (up e :: l))
        ∗ ((xPts m ρ c ∗ zeroR c e ∗ credS c (up e) ∗ ow c (debt c l)) -∗ Q ⟨⟩))
      ⊢ Run c (hop c e) Q := by
  unfold hop recvOp Run
  simp only [Prog.lift, Prog.bind_op, Prog.bind_ret, Prog.pure_eq_ret]
  iintro ⟨#HR, #Hlev, Hx, Hr, Ha, Ht, HO, Hk⟩
  unfold recvRes
  iapply (wp_take m ρ K c (true, e) (up e :: l) (recv_wait c e) (fun e' he' => Nat.add_lt_add_right (hl e' he') 2)) $$ [Hr HO]
  · isplitr; · iexact HR
    isplitr; · iexact Hlev
    isplitl [Hr]; · iexact Hr
    iexact HO
  unfold pay recvPay owns
  iintro ⟨HO, Hz, ⟨%f, %hf, Hreg⟩⟩
  iapply (wp_load_rect 𝒱₀ (c : Thread nD τ) none Set.univ (m := scr e.1) (r := half (land e.2.1) e.2.2) (by rw [reg_set])) $$ Hreg; iintro Hreg
  iapply (wp_load_rect 𝒱₀ (c : Thread nD τ) none Set.univ (m := xM) (r := xblk c e.1 e.2.1 e.2.2) (Finset.subset_univ _)) $$ Hx; iintro Hx
  iapply (wp_load_rect 𝒱₀ (c : Thread nD τ) none Set.univ (m := scr e.1) (r := half (land e.2.1) e.2.2) (by rw [reg_set])) $$ Hreg; iintro Hreg
  rw [sumOf_eq m ρ c e f hf]
  iapply (wp_store 𝒱₀ (c : Thread nD τ) none Set.univ (m := scr e.1) (r := half (land e.2.1) e.2.2) (Mk := Finset.univ) (by rw [View.setOn_univ, reg_set])) $$ Hreg; iintro Hreg
  iapply (wp_start m ρ K c (up e) l)
  isplitr; · iexact HR
  isplitl [Hreg]
  · unfold sendPay owns
    rw [show src (up e).2.1 = land e.2.1 from (src_up e.2.1 he).1, show (up e).2.1.val = e.2.1.val + 1 from (src_up e.2.1 he).2]
    iexists _
    isplitr
    rotate_left
    · iexact Hreg
    · ipureintro; exact read_store_half e.1 (land e.2.1) e.2.2 f _
  isplitl [Ha]; · iexact Ha
  isplitl [Ht]; · unfold toks; iexact Ht
  isplitl [HO]; · iexact HO
  iintro ⟨Hc, HO⟩
  iapply Hk
  isplitl [Hx]; · iexact Hx
  isplitl [Hz]; · unfold zeroR; iexact Hz
  isplitl [Hc]; · unfold credS; iexact Hc
  iexact HO

/-- The middle rounds. -/
theorem hop_all (c : Dev nD) (l : List Ev) (h6 : ∀ e ∈ l, e.2.1.val < 6) (hs : l.Pairwise fun e e' => e.2.1.val ≤ e'.2.1.val) (Q : PUnit → sProp 𝕄) :
    iprop(records m ρ K ∗ levAts L lv ∗ xPts m ρ c ∗ bigSepL l (recvRes c) ∗ bigSepL (l.map up) (fun e => anyReg (dst e.1 c) e) ∗ bigSepL (l.map up) (toks c)
        ∗ ow c (debt c (l.map up)) ∗ ((xPts m ρ c ∗ bigSepL l (zeroR c) ∗ bigSepL (l.map up) (credS c) ∗ ow c (debt c [])) -∗ Q ⟨⟩))
      ⊢ Run c (each (hop c) l) Q := by
  induction l with
  | nil =>
    iintro ⟨-, -, Hx, -, -, -, HO, Hk⟩
    iapply le_wp_ret
    iapply Hk
    isplitl [Hx]; · iexact Hx
    isplitr; · rw [bigSepL_nil]; iempintro
    isplitr; · rw [List.map_nil, bigSepL_nil]; iempintro
    iexact HO
  | cons e l ih =>
    rw [List.map_cons, bigSepL_cons', bigSepL_cons', bigSepL_cons', bigSepL_cons', bigSepL_cons']
    obtain ⟨hs1, hs2⟩ := List.pairwise_cons.mp hs
    have he := h6 e List.mem_cons_self
    unfold each Run
    rw [wp_bind]
    iintro ⟨#HR, #Hlev, Hx, ⟨Hr, Hrs⟩, ⟨Ha, Has⟩, ⟨Ht, Hts⟩, HO, Hk⟩
    iapply (wp_hop m ρ K c e (l.map up) he (fun e' he' => by
      rcases List.mem_cons.mp he' with rfl | he'
      · rw [show (up e).2.1.val = e.2.1.val + 1 from (src_up e.2.1 he).2]; omega
      · obtain ⟨e'', h'', rfl⟩ := List.mem_map.mp he'
        rw [show (up e'').2.1.val = e''.2.1.val + 1 from (src_up e''.2.1 (h6 e'' (List.mem_cons_of_mem _ h''))).2]
        have := hs1 e'' h''; omega))
    isplitr; · iexact HR
    isplitr; · iexact Hlev
    isplitl [Hx]; · iexact Hx
    isplitl [Hr]; · iexact Hr
    isplitl [Ha]; · iexact Ha
    isplitl [Ht]; · iexact Ht
    isplitl [HO]; · iexact HO
    iintro ⟨Hx, Hz, Hc, HO⟩
    iapply (ih (fun e' he' => h6 e' (List.mem_cons_of_mem _ he')) hs2)
    isplitr; · iexact HR
    isplitr; · iexact Hlev
    isplitl [Hx]; · iexact Hx
    isplitl [Hrs]; · iexact Hrs
    isplitl [Has]; · iexact Has
    isplitl [Hts]; · iexact Hts
    isplitl [HO]; · iexact HO
    iintro ⟨Hx, Hzs, Hcs, HO⟩
    iapply Hk
    isplitl [Hx]; · iexact Hx
    isplitl [Hz Hzs]
    · isplitl [Hz] <;> iassumption
    isplitl [Hc Hcs]
    · isplitl [Hc] <;> iassumption
    iexact HO

/-- One step of the last round. -/
theorem wp_last (c : Dev nD) (e : Ev) (he : e.2.1 = 6) (f : OutC (F := F)) (Q : PUnit → sProp 𝕄) :
    iprop(records m ρ K ∗ levAts L lv ∗ xPts m ρ c ∗ oPts c f ∗ recvRes c e ∗ ow c (debt c [])
        ∗ ((xPts m ρ c ∗ oPts c (wr m ρ c f e) ∗ zeroR c e ∗ anyReg c e ∗ ow c (debt c [])) -∗ Q ⟨⟩))
      ⊢ Run c (last c e) Q := by
  unfold last recvOp Run
  simp only [Prog.lift, Prog.bind_op, Prog.bind_ret, Prog.pure_eq_ret]
  iintro ⟨#HR, #Hlev, Hx, Ho, Hr, HO, Hk⟩
  unfold recvRes
  iapply (wp_take m ρ K c (true, e) [] (recv_wait c e) (fun e' he' => by cases he')) $$ [Hr HO]
  · isplitr; · iexact HR
    isplitr; · iexact Hlev
    isplitl [Hr]; · iexact Hr
    iexact HO
  unfold pay recvPay owns
  iintro ⟨HO, Hz, ⟨%g, %hg, Hreg⟩⟩
  iapply (wp_load_rect 𝒱₀ (c : Thread nD τ) none Set.univ (m := scr e.1) (r := half (land e.2.1) e.2.2) (by rw [reg_set])) $$ Hreg; iintro Hreg
  iapply (wp_load_rect 𝒱₀ (c : Thread nD τ) none Set.univ (m := xM) (r := xblk c e.1 e.2.1 e.2.2) (Finset.subset_univ _)) $$ Hx; iintro Hx
  iapply (wp_load_rect 𝒱₀ (c : Thread nD τ) none Set.univ (m := oM) (r := quad e.1 e.2.2) (Finset.subset_univ _)) $$ Ho; iintro Ho
  rw [sumOf_eq m ρ c e g hg, show e.2.1.val + 1 = 7 by rw [he]; rfl]
  iapply (wp_store 𝒱₀ (c : Thread nD τ) none Set.univ (m := oM) (r := quad e.1 e.2.2) (Mk := Finset.univ) (Finset.subset_univ _)) $$ Ho; iintro Ho
  iapply le_wp_ret
  iapply Hk
  isplitl [Hx]; · iexact Hx
  isplitl [Ho]
  · unfold wr; iexact Ho
  isplitl [Hz]; · unfold zeroR; iexact Hz
  isplitl [Hreg]
  · unfold anyReg owns
    iexists _; iexists g
    isplitr; · ipureintro; rfl
    iexact Hreg
  iexact HO

/-- The last round. -/
theorem last_all (c : Dev nD) (l : List Ev) (h6 : ∀ e ∈ l, e.2.1 = 6) (f : OutC (F := F)) (Q : PUnit → sProp 𝕄) :
    iprop(records m ρ K ∗ levAts L lv ∗ xPts m ρ c ∗ oPts c f ∗ bigSepL l (recvRes c) ∗ ow c (debt c [])
        ∗ ((xPts m ρ c ∗ oPts c (l.foldl (wr m ρ c) f) ∗ bigSepL l (zeroR c) ∗ bigSepL l (anyReg c) ∗ ow c (debt c [])) -∗ Q ⟨⟩))
      ⊢ Run c (each (last c) l) Q := by
  induction l generalizing f with
  | nil =>
    iintro ⟨-, -, Hx, Ho, -, HO, Hk⟩
    iapply le_wp_ret
    iapply Hk
    isplitl [Hx]; · iexact Hx
    isplitl [Ho]; · iexact Ho
    isplitr; · rw [bigSepL_nil]; iempintro
    isplitr; · rw [bigSepL_nil]; iempintro
    iexact HO
  | cons e l ih =>
    rw [List.foldl_cons, bigSepL_cons', bigSepL_cons', bigSepL_cons']
    unfold each Run
    rw [wp_bind]
    iintro ⟨#HR, #Hlev, Hx, Ho, ⟨Hr, Hrs⟩, HO, Hk⟩
    iapply (wp_last m ρ K c e (h6 e List.mem_cons_self) f)
    isplitr; · iexact HR
    isplitr; · iexact Hlev
    isplitl [Hx]; · iexact Hx
    isplitl [Ho]; · iexact Ho
    isplitl [Hr]; · iexact Hr
    isplitl [HO]; · iexact HO
    iintro ⟨Hx, Ho, Hz, Ha, HO⟩
    iapply (ih (fun e' he' => h6 e' (List.mem_cons_of_mem _ he')) (wr m ρ c f e))
    isplitr; · iexact HR
    isplitr; · iexact Hlev
    isplitl [Hx]; · iexact Hx
    isplitl [Ho]; · iexact Ho
    isplitl [Hrs]; · iexact Hrs
    isplitl [HO]; · iexact HO
    iintro ⟨Hx, Ho, Hzs, Has, HO⟩
    iapply Hk
    isplitl [Hx]; · iexact Hx
    isplitl [Ho]; · iexact Ho
    isplitl [Hz Hzs]
    · isplitl [Hz] <;> iassumption
    isplitl [Ha Has]
    · isplitl [Ha] <;> iassumption
    iexact HO

/-- The waits for the transfers to have left. -/
theorem sent_all (c : Dev nD) (l : List Ev) (Q : PUnit → sProp 𝕄) :
    iprop(records m ρ K ∗ levAts L lv ∗ bigSepL l (credS c) ∗ bigSepL l (posS c) ∗ ow c (debt c [])
        ∗ ((bigSepL l (zeroS c) ∗ bigSepL l (sendPay m ρ c) ∗ ow c (debt c [])) -∗ Q ⟨⟩))
      ⊢ Run c (each sentOp l) Q := by
  induction l with
  | nil =>
    iintro ⟨-, -, -, -, HO, Hk⟩
    iapply le_wp_ret
    iapply Hk
    isplitr; · rw [bigSepL_nil]; iempintro
    isplitr; · rw [bigSepL_nil]; iempintro
    iexact HO
  | cons e l ih =>
    rw [bigSepL_cons', bigSepL_cons', bigSepL_cons', bigSepL_cons']
    unfold each Run
    rw [wp_bind]
    unfold sentOp Prog.lift
    iintro ⟨#HR, #Hlev, ⟨Hc, Hcs⟩, ⟨Hp, Hps⟩, HO, Hk⟩
    iapply (wp_take m ρ K c (false, e) [] (sent_wait c e) (fun e' he' => by cases he')) $$ [Hc Hp HO]
    · isplitr; · iexact HR
      isplitr; · iexact Hlev
      isplitl [Hc Hp]
      · isplitl [Hc]; · unfold credS; iexact Hc
        unfold posS; iexact Hp
      iexact HO
    iintro ⟨HO, Hz, Hs⟩
    iapply le_wp_ret
    iapply ih
    isplitr; · iexact HR
    isplitr; · iexact Hlev
    isplitl [Hcs]; · iexact Hcs
    isplitl [Hps]; · iexact Hps
    isplitl [HO]; · iexact HO
    iintro ⟨Hzs, Hss, HO⟩
    iapply Hk
    isplitl [Hz Hzs]
    · isplitl [Hz]; · unfold zeroS; iexact Hz
      iexact Hzs
    isplitl [Hs Hss]
    · isplitl [Hs]; · unfold pay; iexact Hs
      iexact Hss
    iexact HO

/-! ## The start -/

/-- Storing a direction's first block leaves both halves of slot 7 ready to send. -/
theorem wp_seed (c : Dev nD) (d : Bool) (f : Buf (Elt F) ((scr d).view.loc (c : Thread nD τ))) (Q : PUnit → sProp 𝕄) :
    iprop(xPts m ρ c ∗ ((scr d).view.loc (c : Thread nD τ) ↦[top d c]{fullShare} f)
        ∗ ((xPts m ρ c ∗ sendPay m ρ c (d, 0, 0) ∗ sendPay m ρ c (d, 0, 1)) -∗ Q ⟨⟩))
      ⊢ Run c (seed c d) Q := by
  unfold seed Run
  simp only [Prog.lift, Prog.bind_op, Prog.bind_ret, Prog.pure_eq_ret]
  iintro ⟨Hx, Hs, Hk⟩
  iapply (wp_load_rect 𝒱₀ (c : Thread nD τ) none Set.univ (m := xM) (r := xblk0 c d) (Finset.subset_univ _)) $$ Hx; iintro Hx
  iapply (wp_load_rect 𝒱₀ (c : Thread nD τ) none Set.univ (m := scr d) (r := slot7) (Finset.Subset.refl _)) $$ Hs; iintro Hs
  iapply (wp_store 𝒱₀ (c : Thread nD τ) none Set.univ (m := scr d) (r := slot7) (Mk := Finset.univ) (by rw [View.setOn_univ])) $$ Hs; iintro Hs
  iapply le_wp_ret
  iapply Hk
  isplitl [Hx]; · iexact Hx
  ihave H := (top_halves c d _) $$ Hs
  icases H with ⟨H0, H1⟩
  isplitl [H0]
  · unfold sendPay
    iapply (Entails.of_eq (congrArg (owns (c : Thread nD τ) (reg d 7 0) fullShare) (read_seed m ρ c d 0 f))); iexact H0
  · unfold sendPay
    iapply (Entails.of_eq (congrArg (owns (c : Thread nD τ) (reg d 7 1) fullShare) (read_seed m ρ c d 1 f))); iexact H1

omit [FloatOps F] in
/-- All the steps, direction by direction. -/
theorem alls_split (Φ : Ev → sProp 𝕄) : bigSepL alls Φ = iprop(bigSepL (evs true) Φ ∗ bigSepL (evs false) Φ) :=
  ((bigSep_univ_eq_bigSepL alls (by decide +kernel) (by decide +kernel) Φ).symm.trans
    (bigSep_univ_eq_bigSepL (evs true ++ evs false) (by decide +kernel) (by decide +kernel) Φ)).trans (bigSepL_append _ _ _)

/-- What a barrier unit hands over, at the semaphore as the kernel names it. -/
theorem payload_bar (c : Dev nD) (d : Bool) : (ringRd (F := F) m ρ).payload ((c : Thread nD τ), .reg barS) 0 d = barPay c d :=
  payload_cell m ρ c d (.inl ())
/-- What the barrier's round hands over, at the semaphore as the kernel names it. -/
theorem rest_meet (c : Dev nD) : bigSep ((ringRd (F := F) m ρ).duties ((c : Thread nD τ), .reg barS) 0 \ ∅)
    (fun d => (ringRd (F := F) m ρ).payload ((c : Thread nD τ), .reg barS) 0 d) = iprop(barPay c false ∗ barPay c true) := rest_bar m ρ c

/-- Meeting the neighbours: the landing regions go to them, theirs come. -/
theorem wp_meet (c : Dev nD) (Q : PUnit → sProp 𝕄) :
    iprop(records m ρ K ∗ levAts L lv ∗ (cred (tallyAt (barCell c) () 2) ∗ atPos ER (barCell c) 0 ∅ 0)
        ∗ dutyTok ER (barCell (nxt c)) 0 false ∗ dutyTok ER (barCell (prv c)) 0 true
        ∗ bigSepL (evs true) (anyReg c) ∗ bigSepL (evs false) (anyReg c) ∗ ow c (O₀ c)
        ∗ ((semVal (barCell c) 0 ∗ bigSepL alls (fun e => anyReg (dst e.1 c) e) ∗ ow c (debt c alls)) -∗ Q ⟨⟩))
      ⊢ Run c (meet c) Q := by
  unfold meet Run ow
  simp only [semSignalWord, semWaitWord, Prog.lift, Prog.bind_op, Prog.bind_ret, Prog.pure_eq_ret]
  iintro ⟨#HR, #Hlev, ⟨HcB, HatB⟩, HtN, HtP, HaT, HaF, ⟨%W, HO⟩, Hk⟩
  ihave #HI := (inv_at m ρ K c (.inl ())) $$ HR
  ihave #HIN := (inv_at m ρ K (nxt c) (.inl ())) $$ HR
  ihave #HIP := (inv_at m ρ K (prv c) (.inl ())) $$ HR
  ihave #HrN := (reached_at m ρ K (nxt c) (.inl ())) $$ HR
  ihave #HrP := (reached_at m ρ K (prv c) (.inl ())) $$ HR
  unfold O₀
  iapply (Rounds.wp_signal 𝒱₀ ER (ringRd m ρ) (c : Thread nD τ) none (dst := (prv c : Thread nD τ)) (κ := K (prv c, .inl ()))
      (d := true) (by exact (duties_cell m ρ (prv c) (.inl ())).symm ▸ Finset.mem_univ true) ((amount_cell m ρ (prv c) true (.inl ())).trans (by decide)) ()
      (debt c alls + tallyAt (barCell (nxt c)) () 1) rfl)
    $$ [HO HtP HaT]
  · isplitr; · iexact HIP
    isplitl [HO]; · iexact HO
    isplitl [HtP]; · iexact HtP
    isplitl [HaT]
    · rw [payload_bar]; unfold barPay
      rw [show dst true (prv c) = c from nxt_prv c]
      iexact HaT
    iexact HrP
  iintro HO
  iapply (Rounds.wp_signal 𝒱₀ ER (ringRd m ρ) (c : Thread nD τ) none (dst := (nxt c : Thread nD τ)) (κ := K (nxt c, .inl ()))
      (d := false) (by exact (duties_cell m ρ (nxt c) (.inl ())).symm ▸ Finset.mem_univ false) ((amount_cell m ρ (nxt c) false (.inl ())).trans (by decide)) ()
      (debt c alls) rfl)
    $$ [HO HtN HaF]
  · isplitr; · iexact HIN
    isplitl [HO]; · iexact HO
    isplitl [HtN]; · iexact HtN
    isplitl [HaF]
    · rw [payload_bar]; unfold barPay
      rw [show dst false (nxt c) = c from prv_nxt c]
      iexact HaF
    iexact HrN
  iintro HO
  iapply (Rounds.wp_wait_rest_token 𝒱₀ ER (ringRd m ρ) (c : Thread nD τ) none (κ := K (c, .inl ()))
      (wpE_semWait_eq 𝒱₀ (c : Thread nD τ) none Set.univ) (Set.mem_univ _) () (O := debt c alls) (W := W) (R := 0) (m := 0) (T := ∅)
      (by rw [show ((c : Thread nD τ), SemLoc.reg barS) = barCell c from rfl, expect_bar]; decide)) $$ [HcB HO HatB]
  · isplitr; · iexact HI
    isplitl [HcB]; · iexact HcB
    isplitl [HO]; · iexact HO
    isplitr; · iapply (mayWait_debt c (.inl ()) alls (fun e _ => by show 1 < _; omega)); iexact Hlev
    iexact HatB
  iintro ⟨HO, HatB, -, Hpay⟩
  ihave Hp := (Entails.of_eq (rest_meet m ρ c)) $$ Hpay
  imod (Rounds.cell_close ER (ringRd m ρ) (Set.mem_univ (K (c, .inl ()))) (fun h => h) (R := 0 + 1) (duties_later m ρ (barCell c))) $$ [HatB] with Hz
  · isplitr; · iexact HI
    iexact HatB
  iapply le_wp_ret
  iapply Hk
  icases Hp with ⟨HF, HT⟩
  isplitl [Hz]; · iexact Hz
  isplitl [HF HT]
  · rw [alls_split]
    isplitl [HT]
    · unfold barPay; iexact HT
    · unfold barPay; iexact HF
  iexists _; iexact HO

/-! ## The whole body -/

/-- What the protocol gives device `c`, beside the shared records: its barrier's credit and position, its two barrier
    tokens, and for every step the credit and position to receive, the tokens to send, the position to wait for the send. -/
def share (c : Dev nD) : sProp 𝕄 :=
  iprop((cred (tallyAt (barCell c) () 2) ∗ atPos ER (barCell c) 0 ∅ 0)
    ∗ (dutyTok ER (barCell (nxt c)) 0 false ∗ dutyTok ER (barCell (prv c)) 0 true)
    ∗ bigSepL alls (recvRes c) ∗ bigSepL alls (toks c) ∗ bigSepL alls (posS c))

/-- A direction's scratch buffer, held whole with some contents. -/
def scrPts (c : Dev nD) (d : Bool) : sProp 𝕄 :=
  iprop(∃ f : Buf (Elt F) ((scr d).view.loc (c : Thread nD τ)), (scr d).view.loc (c : Thread nD τ) ↦{fullShare} f)

/-- All the kernel's counters at zero. -/
def zeros (c : Dev nD) : sProp 𝕄 := iprop(semVal (barCell c) 0 ∗ bigSepL alls (zeroR c) ∗ bigSepL alls (zeroS c))

omit [FloatOps F] in
/-- The regions that come back at the end make both scratch buffers whole. -/
theorem scr_back (c : Dev nD) (f₀ : (d : Bool) → Buf (Elt F) ((scr d).view.loc (c : Thread nD τ))) :
    iprop(bigSepL alls (fun e => anyAt c (e.1, src e.2.1, e.2.2)) ∗ bigSepL (round 6) (anyReg c)) ⊢ (iprop(scrPts c true ∗ scrPts c false) : sProp 𝕄) := by
  have h : (bigSepL (alls.map (fun e => (e.1, src e.2.1, e.2.2)) ++ (round 6).map (fun e => (e.1, land e.2.1, e.2.2))) (anyAt c) : sProp 𝕄)
      = bigSep Finset.univ (anyAt c) := (bigSep_univ_eq_bigSepL _ (by decide +kernel) (by decide +kernel) _).symm
  rw [bigSepL_append, bigSepL_map, bigSepL_map, bigSep_univ_prod, bigSep_univ_eq_bigSepL [true, false] (by decide) (by decide)] at h
  refine BIBase.Entails.trans (Entails.of_eq h) ?_
  exact BI.sep_mono (scr_join c true (f₀ true)) (scr_join c false (f₀ false))

/-- The body: from its share of the protocol, the staged buffers and the scratch, to the result staged, the scratch
    whole again and every counter zero. -/
theorem wp_prog (c : Dev nD) (f : OutC (F := F)) (Q : PUnit → sProp 𝕄) :
    iprop(records m ρ K ∗ levAts L lv ∗ share c ∗ (scrPts c true ∗ scrPts c false) ∗ xPts m ρ c ∗ oPts c f ∗ ow c (O₀ c)
        ∗ ((zeros c ∗ (scrPts c true ∗ scrPts c false) ∗ xPts m ρ c ∗ oPts c (outAt m ρ c) ∗ ow c 0) -∗ Q ⟨⟩))
      ⊢ Run c (prog c) Q := by
  unfold prog Run share scrPts
  simp only [wp_bind]
  iintro ⟨#HR, #Hlev, ⟨HB, ⟨HtN, HtP⟩, Hrecv, Htok, Hpos⟩, ⟨⟨%fT, HsT⟩, ⟨%fF, HsF⟩⟩, Hx, Ho, HO, Hk⟩
  ihave H := (scr_split c true fT) $$ HsT
  icases H with ⟨HtopT, HaT⟩
  ihave H := (scr_split c false fF) $$ HsF
  icases H with ⟨HtopF, HaF⟩
  iapply (wp_meet m ρ K c)
  isplitr; · iexact HR
  isplitr; · iexact Hlev
  isplitl [HB]; · iexact HB
  isplitl [HtN]; · iexact HtN
  isplitl [HtP]; · iexact HtP
  isplitl [HaT]; · iexact HaT
  isplitl [HaF]; · iexact HaF
  isplitl [HO]; · iexact HO
  iintro ⟨Hz, Ha, HO⟩
  iapply (wp_seed m ρ c true fT)
  isplitl [Hx]; · iexact Hx
  isplitl [HtopT]; · iexact HtopT
  iintro ⟨Hx, HpT0, HpT1⟩
  iapply (wp_seed m ρ c false fF)
  isplitl [Hx]; · iexact Hx
  isplitl [HtopF]; · iexact HtopF
  iintro ⟨Hx, HpF0, HpF1⟩
  ihave H := (Entails.of_eq ((congrArg (fun l => bigSepL l (fun e => anyReg (F := F) (dst e.1 c) e)) (show alls = round 0 ++ mids.map up by decide)).trans (bigSepL_append _ _ _))) $$ Ha
  icases H with ⟨Ha0, Ha⟩
  ihave H := (Entails.of_eq ((congrArg (fun l => bigSepL l (toks (F := F) c)) (show alls = round 0 ++ mids.map up by decide)).trans (bigSepL_append _ _ _))) $$ Htok
  icases H with ⟨Ht0, Ht⟩
  ihave H := (Entails.of_eq ((congrArg (fun l => bigSepL l (recvRes (F := F) c)) (show alls = mids ++ round 6 by decide)).trans (bigSepL_append _ _ _))) $$ Hrecv
  icases H with ⟨Hr, Hr6⟩
  rw [show debt c alls = debt c (round 0 ++ mids.map up) from congrArg (debt c) (by decide)]
  iapply (send_all m ρ K c (round 0) (mids.map up))
  isplitr; · iexact HR
  isplitl [HpT0 HpT1 HpF0 HpF1]
  · rw [bigSepL_cons', bigSepL_cons', bigSepL_cons', bigSepL_cons', bigSepL_nil]
    isplitl [HpT0]; · iexact HpT0
    isplitl [HpF0]; · iexact HpF0
    isplitl [HpT1]; · iexact HpT1
    isplitl [HpF1]; · iexact HpF1
    iempintro
  isplitl [Ha0]; · iexact Ha0
  isplitl [Ht0]; · iexact Ht0
  isplitl [HO]; · iexact HO
  iintro ⟨Hc0, HO⟩
  iapply (hop_all m ρ K c mids (by decide) (by decide))
  isplitr; · iexact HR
  isplitr; · iexact Hlev
  isplitl [Hx]; · iexact Hx
  isplitl [Hr]; · iexact Hr
  isplitl [Ha]; · iexact Ha
  isplitl [Ht]; · iexact Ht
  isplitl [HO]; · iexact HO
  iintro ⟨Hx, HzR, Hc, HO⟩
  iapply (last_all m ρ K c (round 6) (by decide) f)
  isplitr; · iexact HR
  isplitr; · iexact Hlev
  isplitl [Hx]; · iexact Hx
  isplitl [Ho]; · iexact Ho
  isplitl [Hr6]; · iexact Hr6
  isplitl [HO]; · iexact HO
  iintro ⟨Hx, Ho, HzR6, Ha6, HO⟩
  rw [wrs_eq]
  iapply (sent_all m ρ K c alls)
  isplitr; · iexact HR
  isplitr; · iexact Hlev
  isplitl [Hc0 Hc]
  · iapply (Entails.of_eq ((congrArg (fun l => bigSepL l (credS (F := F) c)) (show alls = round 0 ++ mids.map up by decide)).trans (bigSepL_append _ _ _)).symm)
    isplitl [Hc0] <;> iassumption
  isplitl [Hpos]; · iexact Hpos
  isplitl [HO]; · iexact HO
  iintro ⟨HzS, Hs, HO⟩
  iapply Hk
  isplitl [Hz HzR HzR6 HzS]
  · unfold zeros
    isplitl [Hz]; · iexact Hz
    isplitl [HzR HzR6]
    · iapply (Entails.of_eq ((congrArg (fun l => bigSepL l (zeroR (F := F) c)) (show alls = mids ++ round 6 by decide)).trans (bigSepL_append _ _ _)).symm)
      isplitl [HzR] <;> iassumption
    iexact HzS
  isplitl [Hs Ha6]
  · have hs : bigSepL alls (sendPay m ρ c) ⊢ (bigSepL alls (fun e => anyAt c (e.1, src e.2.1, e.2.2)) : sProp 𝕄) := bigSepL_mono fun e _ => by
      unfold sendPay anyAt
      iintro H; iexists _; iexact H
    iapply (scr_back c (fun d => (s₀ m ρ).mem ((scr d).view.loc (c : Thread nD τ))))
    isplitl [Hs]
    · iapply hs; iexact Hs
    iexact Ha6
  isplitl [Hx]; · iexact Hx
  isplitl [Ho]; · iexact Ho
  iexact HO

end Cert.KernelIdealProof

end
-- ==== Proof.KernelIdealRun.lean ====
/-
The launch: what each device starts from, that it comes from the semaphores at zero, and the whole run.
-/
module

public import proofs.«01_k».proof.Proof.KernelIdealBody
public import proofs.«01_k».proof.Proof.Gen.KernelIdeal.Points
public import Idealize.ShloMosaic.Lib.Pipeline.CollectiveSegs

@[expose] public section

noncomputable section

namespace Cert.KernelIdealProof

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## What a device starts from and ends with -/

/-- A device's positions, and the tokens of the duties it pays. -/
def linear (c : Dev nD) : sProp 𝕄 :=
  iprop((bigSep Finset.univ fun x : KI => atPos ER (cell c x) 0 ∅ 0)
    ∗ (dutyTok ER (barCell (nxt c)) 0 false ∗ dutyTok ER (barCell (prv c)) 0 true) ∗ bigSep Finset.univ (toks c))

/-- The credit a device starts with: its barrier's two units and the bytes of every transfer it receives. -/
def income (c : Dev nD) : sProp 𝕄 :=
  iprop(cred (tallyAt (barCell c) () 2) ∗ bigSep Finset.univ fun e : Ev => cred (tallyAt (recvCell c e) () N))

def start (c : Dev nD) : sProp 𝕄 := iprop((∃ K, records m ρ K ∗ linear c) ∗ income c ∗ levAts L lv)

/-- Before the body: the start and both scratch buffers. -/
def Φ₀ (c : Dev nD) : sProp 𝕄 := iprop(start m ρ c ∗ scrPts c true ∗ scrPts c false)
/-- After it: every counter at zero and both scratch buffers. -/
def Φ₁ (c : Dev nD) : sProp 𝕄 := iprop(zeros c ∗ scrPts c true ∗ scrPts c false)

def dats (_ : Fin 1) (c : Dev nD) : Dat τ (Elt F) Unit ℕ UU ℕ cfg0 c where
  A w := (s₀ m ρ).mem ((cfg0.win w).arr.view.loc (c : Thread nD τ))
  after w _ := match w with
    | ⟨0, _⟩ => xstg m ρ c
    | ⟨1, _⟩ => outAt m ρ c
  Φ t := match t with
    | ⟨0, _⟩ => Φ₀ m ρ c
    | ⟨_ + 1, _⟩ => Φ₁ c
  q _ := fullShare
  owed t := match t with
    | ⟨0, _⟩ => O₀ c
    | ⟨_ + 1, _⟩ => 0

theorem univ_alls : (Finset.univ : Finset Ev) = alls.toFinset := by decide +kernel
theorem alls_nodup : alls.Nodup := by decide +kernel

omit [FloatOps F] in
/-- Something for every step, as a list. -/
theorem bigSep_alls (Φ : Ev → sProp 𝕄) : bigSep Finset.univ Φ = bigSepL alls Φ := bigSep_univ_eq_bigSepL alls univ_alls alls_nodup Φ

omit [FloatOps F] in
/-- Something for every cell of a device: the barrier's, the receives', the sends'. -/
theorem bigSep_cells (Φ : KI → sProp 𝕄) :
    bigSep Finset.univ Φ = iprop(Φ (.inl ()) ∗ bigSepL alls (fun e => Φ (.inr (true, e))) ∗ bigSepL alls (fun e => Φ (.inr (false, e)))) := by
  refine (bigSep_univ_sum Φ).trans (congr (congrArg BI.sep ?_) ?_)
  · exact bigSep_univ_eq_bigSepL [()] (by decide) (by decide) _
  · rw [bigSep_univ_prod, bigSep_univ_eq_bigSepL [true, false] (by decide) (by decide), bigSepL_cons_cons, bigSepL_singleton, bigSep_alls, bigSep_alls]; rfl

omit [FloatOps F] in
/-- A device's positions, tokens and credit are its share of the protocol. -/
theorem share_intro (c : Dev nD) : iprop(linear c ∗ income c) ⊢ (share c : sProp 𝕄) := by
  have hr : bigSepL alls (recvRes (F := F) c) = iprop(bigSepL alls (fun e => cred (tallyAt (recvCell c e) () N)) ∗ bigSepL alls fun e => atPos ER (recvCell c e) 0 ∅ 0) := by
    rw [← bigSep_alls, ← bigSep_alls, ← bigSep_alls, ← bigSep_sep']; rfl
  unfold linear income share
  rw [bigSep_cells, bigSep_alls, bigSep_alls, hr]
  iintro ⟨⟨⟨HaB, HaR, HaS⟩, Ht, Htk⟩, Hc, HcR⟩
  isplitl [Hc HaB]
  · isplitl [Hc] <;> iassumption
  isplitl [Ht]; · iexact Ht
  isplitl [HcR HaR]
  · isplitl [HcR] <;> iassumption
  isplitl [Htk]; · iexact Htk
  iexact HaS

/-! ## The body's obligation -/

omit [FloatOps F] in
theorem owns_stg (c : Dev nD) (b : Ref sig .tc) (X : b.ty.Contents (Elt F)) :
    (owns (Ix := Unit) (Name := ℕ) (U := UU) (Lvl := ℕ) (c : Thread nD τ) (Memref.whole b) fullShare X : sProp 𝕄)
      = iprop(∃ f : Buf (Elt F) ((c : Thread nD τ).loc b), ⌜f = X⌝ ∗ (((c : Thread nD τ).loc b) ↦{fullShare} f)) := by
  unfold owns; simp only [Memref.view_whole, View.read_whole, View.set_whole]

abbrev stg (c : Dev nD) (b : Ref sig .tc) (X : b.ty.Contents (Elt F)) : sProp 𝕄 :=
  iprop(∃ f : Buf (Elt F) ((c : Thread nD τ).loc b), ⌜f = X⌝ ∗ (((c : Thread nD τ).loc b) ↦{fullShare} f))

def bodyPre (c : Dev nD) : sProp 𝕄 :=
  iprop(Φ₀ m ρ c ∗ (dats m ρ 0 c).owesAt () t0_0.castSucc
    ∗ (∃ d, stg c cc0_stg0_0 ((dats m ρ 0 c).before (0 : Fin 2) t0_0 d))
    ∗ (∃ d, stg c cc0_stg1_0 ((dats m ρ 0 c).before (1 : Fin 2) t0_0 d)))

def bodyPost (c : Dev nD) : sProp 𝕄 :=
  iprop(Φ₁ c ∗ (dats m ρ 0 c).owesAt () t0_0.succ ∗ stg c cc0_stg0_0 (xstg m ρ c) ∗ stg c cc0_stg1_0 (outAt m ρ c))

/-- The body on device `c`, from what the pipeline hands it to what the pipeline takes back. -/
theorem sound_body (c : Dev nD) :
    bodyPre m ρ c ⊢ wp frame (wpE (defs₀ (F := F)) 𝒱₀ (c : Thread nD τ) none) Set.univ (Prog.op .deviceId fun c => prog c) (fun _ => bodyPost m ρ c) := by
  rw [wp_deviceId]
  unfold bodyPre Φ₀ start
  iintro ⟨⟨⟨⟨%K, #HR, Hlin⟩, Hinc, #Hlev⟩, Hs⟩, Ho, ⟨%d0, %g0, %hg0, Hx⟩, ⟨%d1, %g1, %hg1, Hout⟩⟩
  have hx : g0 = xstg m ρ c := by rw [hg0]; unfold Dat.before; rw [if_pos (fetch0_0 t0_0)]; rfl
  subst hx
  unfold Dat.owesAt Pipeline.owesWithin
  icases Ho with ⟨%W, %hW, HO⟩
  rw [show (dats m ρ 0 c).owed t0_0.castSucc = O₀ c from rfl]
  iapply (wp_prog m ρ K c g1 fun _ => bodyPost m ρ c)
  isplitr; · iexact HR
  isplitr; · iexact Hlev
  isplitl [Hlin Hinc]
  · iapply (share_intro (F := F) c)
    isplitl [Hlin] <;> iassumption
  isplitl [Hs]; · iexact Hs
  isplitl [Hx]; · iexact Hx
  isplitl [Hout]; · iexact Hout
  isplitl [HO]; · unfold ow; iexists W; iexact HO
  iintro ⟨Hz, Hs, Hx, Hout, HO⟩
  unfold bodyPost Φ₁ ow Dat.owesAt Pipeline.owesWithin
  rw [show (dats m ρ 0 c).owed t0_0.succ = 0 from rfl]
  isplitl [Hz Hs]
  · isplitl [Hz] <;> iassumption
  isplitl [HO]
  · icases HO with ⟨%W', HO⟩
    iexists W'
    isplitr; · ipureintro; exact fun _ _ => Or.inl trivial
    iexact HO
  isplitl [Hx]
  · iexists _; isplitr; · (ipureintro; rfl)
    iexact Hx
  iexists _; isplitr; · (ipureintro; rfl)
  iexact Hout

set_option maxRecDepth 20000 in
theorem body_obligation (c : Dev nD) : BodyObligation (dats (F := F) m ρ 0 c) (defs₀ (F := F)) 𝒱₀ () Set.univ := fun t => by
  rw [fin_N0 t]
  rw [show ∀ Φ : Fin cfg0.W → sProp 𝕄, bigSep Finset.univ Φ = iprop(Φ (0 : Fin 2) ∗ Φ (1 : Fin 2)) from bigSep_W0,
    show ∀ Φ : Fin cfg0.W → sProp 𝕄, bigSep Finset.univ Φ = iprop(Φ (0 : Fin 2) ∗ Φ (1 : Fin 2)) from bigSep_W0]
  simp only [owns_stg]
  show bodyPre m ρ c ⊢ wp frame (wpE (defs₀ (F := F)) 𝒱₀ (c : Thread nD τ) none) Set.univ
    (cc0_body (F := F) xM (Memref.isWhole_whole _) oM (Memref.isWhole_whole _) (Memref.whole cc0_scratch0) (Memref.isWhole_whole _)
      (Memref.whole cc0_scratch1) (Memref.isWhole_whole _) cc0_scratch2 cc0_scratch3 cc0_scratch4 cc0_scratch5) (fun _ => bodyPost m ρ c)
  rw [body_eq]
  exact sound_body m ρ c

/-! ## The launch -/

theorem ownSemFacts : Pipeline.OwnSemFacts cfg0.spec osem where
  isScoped := by decide +kernel
  inj := osem_injective
  disj := by decide +kernel

theorem share_full (c : Dev nD) (w : Fin cfg0.W) : (dats m ρ 0 c).share w = fullShare := by unfold Dat.share; split <;> rfl

def ringCells : Finset (GSem nD τ sig) :=
  Finset.univ.map ⟨fun p : Dev nD × KI => cell p.1 p.2, fun p q h => Prod.ext (cell_inj h).1 (cell_inj h).2⟩

/-- A device's own cells' duties: its barrier's two, and one for every transfer cell. -/
abbrev tokOf (p : Dev nD × (Bool ⊕ (Bool × Ev))) : GSem nD τ sig × ℕ × Bool :=
  match p.2 with
  | .inl b => (barCell p.1, 0, b)
  | .inr x => (cell p.1 (.inr x), 0, false)

theorem tokOf_injective : Function.Injective tokOf := by
  rintro ⟨c, a | a⟩ ⟨c', b | b⟩ h
  · exact congr (congrArg Prod.mk (cell_inj (congrArg Prod.fst h)).1) (congrArg Sum.inl (congrArg (fun y => y.2.2) h))
  · exact absurd (cell_inj (congrArg Prod.fst h)).2 (by simp)
  · exact absurd (cell_inj (congrArg Prod.fst h)).2 (by simp)
  · exact congr (congrArg Prod.mk (cell_inj (congrArg Prod.fst h)).1) (congrArg Sum.inr (Sum.inr.inj (cell_inj (congrArg Prod.fst h)).2))

def ringToks : Finset (GSem nD τ sig × ℕ × Bool) := Finset.univ.map ⟨tokOf, tokOf_injective⟩

def u₀ : UU := (initOf (Pipeline.cells cfgs cellOf_inj) (Pipeline.launchToks cfgs cellOf_inj), initOf ringCells ringToks)

/-- The duty tokens of a device's own cells. -/
def minted (c : Dev nD) : sProp 𝕄 :=
  iprop((dutyTok ER (barCell c) 0 false ∗ dutyTok ER (barCell c) 0 true)
    ∗ (bigSep Finset.univ fun e : Ev => dutyTok ER (recvCell c e) 0 false) ∗ bigSep Finset.univ fun e : Ev => dutyTok ER (sendCell c e) 0 false)

/-- What the launch deals device `c`. -/
def G (c : Dev nD) : sProp 𝕄 :=
  iprop((bigSep Finset.univ fun x : KI => roundState ER (ringRd m ρ) (cell c x) 0)
    ∗ (bigSep Finset.univ fun x : KI => iprop(atPos ER (cell c x) 0 ∅ 0 ∗ reached ER (cell c x) 0)) ∗ minted c)

/-- What the allocation makes of it. -/
def G' (c : Dev nD) : sProp 𝕄 := iprop(∃ K, records m ρ K ∗ linear c)

theorem fund_ring : BI.own (ER (initOf ringCells ringToks)) ⊢ (|==> bigSep Finset.univ (G m ρ) : sProp 𝕄) := by
  have hX (Φ : GSem nD τ sig → sProp 𝕄) : bigSep ringCells Φ = bigSep Finset.univ fun c : Dev nD => bigSep Finset.univ fun x : KI => Φ (cell c x) := by
    unfold ringCells; rw [bigSep_map, bigSep_univ_prod]; rfl
  have hT : bigSep ringToks (fun x => (dutyTok ER x.1 x.2.1 x.2.2 : sProp 𝕄)) = bigSep Finset.univ fun c : Dev nD => minted c := by
    unfold ringToks; rw [bigSep_map, bigSep_univ_prod]
    refine bigSep_congr fun c _ => (bigSep_univ_sum _).trans (congr (congrArg BI.sep ?_) ?_)
    · rw [bigSep_univ_eq_bigSepL [false, true] (by decide) (by decide), bigSepL_cons_cons, bigSepL_singleton]; rfl
    · rw [bigSep_univ_prod, bigSep_univ_eq_bigSepL [true, false] (by decide) (by decide), bigSepL_cons_cons, bigSepL_singleton]; rfl
  iintro HX
  imod (Rounds.fund ER (ringRd m ρ) ringCells ringToks) $$ HX with ⟨Hst, Hr, Hat, Htok⟩
  imodintro
  ihave Hst' := (Entails.of_eq (hX fun g => roundState ER (ringRd m ρ) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  unfold G; simp only [bigSep_sep']
  isplitl [Hst']; · iexact Hst'
  isplitl [Hat' Hr']
  · isplitl [Hat'] <;> iassumption
  iexact Htok'

omit [FloatOps F] in
/-- The kernel's own semaphores: the receives' and the sends'. -/
theorem ownSems_eq (c : Dev nD) : (Pipeline.ownSems0 (Ix := Unit) (Name := ℕ) (U := UU) (Lvl := ℕ) (Val := Elt F) (τ := τ) osem c : sProp 𝕄)
    = iprop(bigSepL alls (zeroR c) ∗ bigSepL alls (zeroS c)) := by
  unfold Pipeline.ownSems0
  rw [bigSep_univ_prod, bigSep_univ_eq_bigSepL [true, false] (by decide) (by decide), bigSepL_cons_cons, bigSepL_singleton, bigSep_alls, bigSep_alls]; rfl
omit [FloatOps F] in
/-- The barrier's is the one the launch does not scope. -/
theorem barSem_eq (c : Dev nD) : (unscopedSems0 c : sProp 𝕄) = semVal (barCell c) 0 := by
  unfold unscopedSems0; rw [bigSep_eq_bigSepL_of_eq [SemLoc.reg barS] (by decide +kernel) (by decide)]; rfl

omit [FloatOps F] in
theorem sems_eq (c : Dev nD) :
    iprop(Pipeline.ownSems0 (Ix := Unit) (Name := ℕ) (U := UU) (Lvl := ℕ) (Val := Elt F) (τ := τ) osem c ∗ unscopedSems0 c)
      ⊢ (bigSep Finset.univ fun x : KI => semVal (cell c x) 0 : sProp 𝕄) := by
  rw [ownSems_eq, barSem_eq, bigSep_cells]
  iintro ⟨⟨HR, HS⟩, HB⟩
  isplitl [HB]; · iexact HB
  isplitl [HR]; · iexact HR
  iexact HS

/-- On one device: every cell's invariant allocated from its counter at zero. -/
theorem core_alloc (c : Dev nD) :
    iprop(Pipeline.ownSems0 (Ix := Unit) (Name := ℕ) (U := UU) (Lvl := ℕ) (Val := Elt F) (τ := τ) osem c ∗ unscopedSems0 c ∗ G m ρ c)
      ⊢ |={Set.univ}=> iprop((bigSep Finset.univ fun x : KI => iprop(∃ κ : ℕ, cellInv ER (ringRd m ρ) κ (cell c x) ∗ reached ER (cell c x) 0))
          ∗ (bigSep Finset.univ fun x : KI => atPos ER (cell c x) 0 ∅ 0) ∗ minted c) := by
  unfold G
  rw [bigSep_sep']
  iintro ⟨Hos, Hus, Hst, ⟨Hat, Hr⟩, Htok⟩
  ihave Hv := (sems_eq (F := F) c) $$ [Hos Hus]
  · isplitl [Hos] <;> iassumption
  imod (show iprop((bigSep Finset.univ fun x : KI => semVal (cell c x) 0) ∗ bigSep Finset.univ fun x : KI => roundState ER (ringRd m ρ) (cell c x) 0)
      ⊢ (|={Set.univ}=> bigSep Finset.univ fun x : KI => iprop(∃ κ : ℕ, cellInv ER (ringRd m ρ) κ (cell c x)) : sProp 𝕄) from by
        rw [← bigSep_sep']
        exact (bigSep_mono fun x _ => (Rounds.body_intro ER (ringRd m ρ) (cell c x)).trans inv_alloc).trans (bigSep_fupd _ _)) $$ [Hv Hst] with Hinv
  · isplitl [Hv] <;> iassumption
  imodintro
  isplitl [Hinv Hr]
  · have h : iprop((bigSep Finset.univ fun x : KI => iprop(∃ κ : ℕ, cellInv ER (ringRd m ρ) κ (cell c x))) ∗ bigSep Finset.univ fun x : KI => reached ER (cell c x) 0)
        ⊢ (bigSep Finset.univ fun x : KI => iprop(∃ κ : ℕ, cellInv ER (ringRd m ρ) κ (cell c x) ∗ reached ER (cell c x) 0) : sProp 𝕄) := by
      rw [← bigSep_sep']
      exact bigSep_mono fun x _ => by
        show iprop((∃ κ : ℕ, cellInv ER (ringRd m ρ) κ (cell c x)) ∗ reached ER (cell c x) 0) ⊢ iprop(∃ κ : ℕ, cellInv ER (ringRd m ρ) κ (cell c x) ∗ reached ER (cell c x) 0)
        iintro ⟨⟨%κ, HI⟩, H⟩
        iexists κ
        isplitl [HI] <;> iassumption
    iapply h
    isplitl [Hinv] <;> iassumption
  isplitl [Hat]; · iexact Hat
  iexact Htok

def ring : Dev nD ≃ Dev nD := ⟨nxt, prv, prv_nxt, nxt_prv⟩
def way (d : Bool) : Dev nD ≃ Dev nD := ⟨dst d, org d, org_dst d, dst_org d⟩

omit [FloatOps F] in
theorem swap (Φ : Dev nD → Ev → sProp 𝕄) :
    (bigSep Finset.univ fun c : Dev nD => bigSep Finset.univ fun e : Ev => Φ c e) = bigSep Finset.univ fun e : Ev => bigSep Finset.univ fun c : Dev nD => Φ c e := by
  rw [← bigSep_univ_prod (fun p : Dev nD × Ev => Φ p.1 p.2), ← bigSep_univ_prod (fun p : Ev × Dev nD => Φ p.2 p.1)]
  exact bigSep_univ_equiv (Equiv.prodComm Ev (Dev nD)) fun p : Dev nD × Ev => Φ p.1 p.2

omit [FloatOps F] in
/-- Each token goes to the device that pays the duty. -/
theorem deal : (bigSep Finset.univ fun c : Dev nD => (minted c : sProp 𝕄))
    ⊢ bigSep Finset.univ fun c : Dev nD => iprop((dutyTok ER (barCell (nxt c)) 0 false ∗ dutyTok ER (barCell (prv c)) 0 true) ∗ bigSep Finset.univ (toks c)) := by
  have hr : (bigSep Finset.univ fun c : Dev nD => bigSep Finset.univ fun e : Ev => (dutyTok ER (recvCell c e) 0 false : sProp 𝕄))
      = bigSep Finset.univ fun c : Dev nD => bigSep Finset.univ fun e : Ev => dutyTok ER (recvCell (dst e.1 c) e) 0 false := by
    rw [swap, swap fun (c : Dev nD) (e : Ev) => (dutyTok ER (recvCell (dst e.1 c) e) 0 false : sProp 𝕄)]
    exact bigSep_congr fun e _ => bigSep_univ_equiv (way e.1) fun c : Dev nD => (dutyTok ER (recvCell c e) 0 false : sProp 𝕄)
  have ht (c : Dev nD) : bigSep Finset.univ (toks (F := F) c) = iprop((bigSep Finset.univ fun e : Ev => dutyTok ER (sendCell c e) 0 false)
      ∗ bigSep Finset.univ fun e : Ev => dutyTok ER (recvCell (dst e.1 c) e) 0 false) := by
    rw [← bigSep_sep']; rfl
  unfold minted
  simp only [ht]
  rw [bigSep_sep', bigSep_sep', bigSep_sep', bigSep_sep', bigSep_sep', bigSep_sep', hr,
    bigSep_univ_equiv ring (fun c : Dev nD => (dutyTok ER (barCell c) 0 false : sProp 𝕄)),
    bigSep_univ_equiv ring.symm (fun c : Dev nD => (dutyTok ER (barCell c) 0 true : sProp 𝕄))]
  iintro ⟨⟨H1, H2⟩, H3, H4⟩
  isplitl [H1 H2]
  · isplitl [H1]; · iexact H1
    iexact H2
  isplitl [H4]; · iexact H4
  iexact H3

omit [FloatOps F] in
theorem bigSep_keep {I : Type} [DecidableEq I] {S : Finset I} {R : sProp 𝕄} [BI.Persistent R] {Φ Ψ : I → sProp 𝕄}
    (h : ∀ i ∈ S, iprop(R ∗ Φ i) ⊢ Ψ i) : iprop(R ∗ bigSep S Φ) ⊢ bigSep S Ψ :=
  (sep_mono_left (BI.bigSep_of_persistent S R)).trans (by rw [← bigSep_sep']; exact bigSep_mono h)

theorem regroup :
    (bigSep Finset.univ fun c : Dev nD => iprop((bigSep Finset.univ fun x : KI => iprop(∃ κ : ℕ, cellInv ER (ringRd m ρ) κ (cell c x) ∗ reached ER (cell c x) 0))
          ∗ (bigSep Finset.univ fun x : KI => atPos ER (cell c x) 0 ∅ 0) ∗ minted c) : sProp 𝕄)
      ⊢ bigSep Finset.univ (G' m ρ) := by
  rw [bigSep_sep', bigSep_sep', ← bigSep_univ_prod (fun p : Dev nD × KI => iprop(∃ κ : ℕ, cellInv ER (ringRd m ρ) κ (cell p.1 p.2) ∗ reached ER (cell p.1 p.2) 0))]
  iintro ⟨HI, Hat, Htok⟩
  ihave HK := (BI.bigSep_exists_pi Finset.univ (fun (p : Dev nD × KI) (κ : ℕ) => (iprop(cellInv ER (ringRd m ρ) κ (cell p.1 p.2) ∗ reached ER (cell p.1 p.2) 0) : sProp 𝕄))) $$ HI
  icases HK with ⟨%K, #HI⟩
  ihave Htk := (deal (F := F)) $$ Htok
  have hK : ∀ c ∈ (Finset.univ : Finset (Dev nD)), iprop(records m ρ K ∗ linear c) ⊢ G' m ρ c := fun c _ => by
    unfold G'
    iintro H; iexists K; iexact H
  iapply (bigSep_keep (R := records m ρ K) hK)
  isplitr
  · unfold records; iexact HI
  · iapply (Entails.of_eq (bigSep_sep' Finset.univ (fun c : Dev nD => bigSep Finset.univ fun x : KI => (atPos ER (cell c x) 0 ∅ 0 : sProp 𝕄))
      fun c => iprop((dutyTok ER (barCell (nxt c)) 0 false ∗ dutyTok ER (barCell (prv c)) 0 true) ∗ bigSep Finset.univ (toks c))).symm)
    isplitl [Hat]; · iexact Hat
    iexact Htk

/-- All devices' semaphores and dealt parts at once become every device's start. -/
theorem glob : (bigSep Finset.univ fun c => iprop(Pipeline.ownSems0 (Ix := Unit) (Name := ℕ) (U := UU) (Lvl := ℕ) (Val := Elt F) (τ := τ) osem c ∗ unscopedSems0 c ∗ G m ρ c) : sProp 𝕄)
    ⊢ |={Set.univ}=> bigSep Finset.univ (G' m ρ) :=
  ((bigSep_mono fun c _ => core_alloc m ρ c).trans (bigSep_fupd _ _)).trans (BI.fupd_mono (regroup m ρ))

/-! ### The launch credit -/

theorem tally_at (a b : Dev nD) (x y : KI) (n : ℕ) : (tallyAt (cell a x) () n : CellTallies nD τ sig Unit) (cell b y) () = if a = b ∧ x = y then n else 0 := by
  rw [tallyAt_apply]
  by_cases h : a = b ∧ x = y
  · obtain ⟨rfl, rfl⟩ := h
    rw [if_pos ⟨rfl, rfl⟩, if_pos ⟨rfl, rfl⟩]
  · rw [if_neg h, if_neg fun h' => h ((cell_inj h'.1).imp Eq.symm Eq.symm)]

theorem debt_bar (d c : Dev nD) (l : List Ev) : debt d l (barCell c) () = 0 := by
  refine Nat.eq_zero_of_not_pos fun h => ?_
  obtain ⟨e, -, he⟩ := debt_pos h
  exact absurd (cell_inj he).2 (by simp)

theorem debt_recv (d c : Dev nD) (e : Ev) (l : List Ev) (hl : l.Nodup) : debt d l (recvCell c e) () = if e ∈ l ∧ dst e.1 d = c then N else 0 := by
  induction l with
  | nil => simp [debt]
  | cons a l ih =>
    obtain ⟨ha, hl⟩ := List.nodup_cons.mp hl
    unfold debt
    rw [Pi.add_apply, Finsupp.add_apply, ih hl, tally_at]
    by_cases h : e = a
    · subst h
      simp [ha]
    · have h' : ¬a = e := fun h' => h h'.symm
      simp [h, h']

/-- What device `d` owes device `c`'s barrier. -/
theorem owed_bar (d c : Dev nD) : O₀ d (barCell c) () = (if d = prv c then 1 else 0) + (if d = nxt c then 1 else 0) := by
  unfold O₀
  rw [Pi.add_apply, Finsupp.add_apply, Pi.add_apply, Finsupp.add_apply, debt_bar, tally_at, tally_at, Nat.zero_add]
  have h1 : (nxt d = c) = (d = prv c) := propext ⟨fun h => by rw [← h, prv_nxt], fun h => by rw [h, nxt_prv]⟩
  have h2 : (prv d = c) = (d = nxt c) := propext ⟨fun h => by rw [← h, nxt_prv], fun h => by rw [h, prv_nxt]⟩
  simp only [h1, h2, and_true]

/-- What device `d` owes device `c`'s receive cell of a step. -/
theorem owed_recv (d c : Dev nD) (e : Ev) : O₀ d (recvCell c e) () = if d = org e.1 c then N else 0 := by
  unfold O₀
  have hn (a : Dev nD) : ¬(a = c ∧ (Sum.inl () : KI) = Sum.inr (true, e)) := fun h => nomatch h.2
  have h : e ∈ alls ∧ dst e.1 d = c ↔ d = org e.1 c :=
    ⟨fun h => by rw [← h.2, org_dst], fun h => ⟨List.mem_toFinset.mp (univ_alls ▸ Finset.mem_univ e), by rw [h, dst_org]⟩⟩
  rw [Pi.add_apply, Finsupp.add_apply, Pi.add_apply, Finsupp.add_apply, debt_recv d c e alls alls_nodup, tally_at, tally_at,
    if_neg (hn _), if_neg (hn _)]
  exact if_congr h rfl rfl

omit [FloatOps F] in
theorem launch_bar (c : Dev nD) :
    tallyOn (barCell c) (launchCredit (Pipeline.owing O₀) 0 (barCell c)) = (tallyAt (barCell c) () 2 : CellTallies nD τ sig Unit) := by
  unfold tallyAt; refine congrArg _ (Finsupp.ext fun u => ?_); cases u
  rw [Pipeline.launchCredit_owing, Finsupp.single_eq_same, Finset.sum_congr rfl fun d _ => owed_bar d c, Finset.sum_add_distrib,
    Finset.sum_ite_eq' Finset.univ (prv c) fun _ => 1, Finset.sum_ite_eq' Finset.univ (nxt c) fun _ => 1, if_pos (Finset.mem_univ _), if_pos (Finset.mem_univ _)]

omit [FloatOps F] in
theorem launch_recv (c : Dev nD) (e : Ev) :
    tallyOn (recvCell c e) (launchCredit (Pipeline.owing O₀) 0 (recvCell c e)) = (tallyAt (recvCell c e) () N : CellTallies nD τ sig Unit) := by
  unfold tallyAt; refine congrArg _ (Finsupp.ext fun u => ?_); cases u
  rw [Pipeline.launchCredit_owing, Finsupp.single_eq_same, Finset.sum_congr rfl fun d _ => owed_recv d c e, Finset.sum_ite_eq' Finset.univ (org e.1 c) fun _ => N,
    if_pos (Finset.mem_univ _)]

omit [FloatOps F] in
theorem creds (c : Dev nD) : (Pipeline.launchCred O₀ c : sProp 𝕄) ⊢ income c := by
  unfold Pipeline.launchCred income
  refine (bigSep_subset (Finset.subset_univ (Finset.univ.map ⟨csem, csem_injective⟩))).trans ?_
  rw [bigSep_map, bigSep_cells, bigSep_alls]
  have hr : (bigSepL alls fun e : Ev => cred (tallyOn (recvCell c e) (launchCredit (Pipeline.owing O₀) 0 (recvCell c e))) : sProp 𝕄)
      ⊢ bigSepL alls fun e : Ev => cred (tallyAt (recvCell c e) () N) := bigSepL_mono fun e _ => by rw [launch_recv]
  have h : iprop(cred (tallyOn (barCell c) (launchCredit (Pipeline.owing O₀) 0 (barCell c)))
      ∗ (bigSepL alls fun e : Ev => cred (tallyOn (recvCell c e) (launchCredit (Pipeline.owing O₀) 0 (recvCell c e))))
      ∗ (bigSepL alls fun e : Ev => cred (tallyOn (sendCell c e) (launchCredit (Pipeline.owing O₀) 0 (sendCell c e)))))
      ⊢ (iprop(cred (tallyAt (barCell c) () 2) ∗ bigSepL alls fun e : Ev => cred (tallyAt (recvCell c e) () N)) : sProp 𝕄) := by
    rw [launch_bar]
    iintro ⟨HB, HR, -⟩
    isplitl [HB]; · iexact HB
    iapply hr; iexact HR
  exact h

/-! ### The theorem's side conditions -/

theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' m ρ c)
      ⊢ |={Set.univ}=> iprop(start m ρ c ∗ emp) := by
  iintro ⟨-, Hlev, Hcr, -, HG⟩
  ihave Hc := (creds (F := F) c) $$ Hcr
  imodintro
  unfold start G'
  isplitl
  · isplitl [HG]; · iexact HG
    isplitl [Hc] <;> iassumption
  · iempintro

theorem phi0_intro (c : Dev nD) :
    iprop(start m ρ c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = Φ₀ m ρ c from rfl, scopedRest0_eq]
  unfold Φ₀ scrPts
  iintro ⟨Hs, -, H0, H1⟩
  isplitl [Hs]; · iexact Hs
  isplitl [H0]; · iexact H0
  iexact H1

theorem phi1_exit (c : Dev nD) :
    (dats m ρ 0 c).Φ (Fin.last cfg0.N) ⊢ iprop(unscopedSems0 c ∗ Pipeline.ownSems0 osem c ∗ Pipeline.scopedRest cfg0.spec c) := by
  rw [show (dats m ρ 0 c).Φ (Fin.last cfg0.N) = Φ₁ c from rfl, scopedRest0_eq, ownSems_eq, barSem_eq]
  unfold Φ₁ zeros scrPts
  iintro ⟨⟨HzB, Hz⟩, H0, H1⟩
  isplitl [HzB]; · iexact HzB
  isplitl [Hz]; · iexact Hz
  isplitl [H0]; · iexact H0
  iexact H1

theorem stage_ne : ∀ (w : Fin 2) (x : KI) (s : Fin (cfg0.spec w).nbuf), csem x ≠ .dma ((cfg0.spec w).sem s) := by
  rintro w (u | x) s
  · exact fun h => by cases h
  · exact ownSemFacts.disj x w s

theorem waits (c : Dev nD) : (levAts L lv : sProp 𝕄) ⊢ Pipeline.cellsWaits cfgs (dats m ρ) () 0 c :=
  Pipeline.cellsWaits_intro cfgs (dats m ρ) () 0 c fun w s t =>
    mayWait_stage c _ (fun x => stage_ne w x s) _ (by
      rcases t with ⟨_ | _, ht⟩
      · exact Or.inl rfl
      · exact Or.inr rfl)

/-! ### The run -/

def finalA (c : Dev nD) (w : Fin cfg0.W) : Buf (Elt F) ((cfg0.win w).arr.view.loc (c : Thread nD τ)) := (dats m ρ 0 c).arrAt w cfg0.N

def QC : PUnit × MemSt nD τ sig (Elt F) → Prop := fun r =>
  ∀ c : Dev nD, ∀ w : Fin cfg0.W, r.2.mem ((cfg0.win w).arr.view.loc (c : Thread nD τ)) = finalA m ρ c w

set_option maxRecDepth 20000 in
/-- From any memory with zero counters, every fair execution of the eight devices terminates with each device's arrays
    at the computed contents and every semaphore counter at zero. -/
theorem run_main : θ_run defs (onTc (τ := τ) (main (F := F))) (s₀ m ρ) (fun r => QC m ρ r ∧ r.2.sem = fun _ => 0) :=
  Pipeline.θ_run_region_owing_glob_pf (fun p => (cfgs p).toPCfg) (fun p => (cfgs p).toPCfg_adm) (dats m ρ) () cellOf_inj (0 : Fin 1)
    winFacts0.to₀ ownSemFacts (Pipeline.PreFacts.none _) EP defs₀ 𝒱₀ m ρ main
    (hmain := fun _ => rfl)
    (hbody := body_obligation m ρ) (hne := fun w => by fin_cases w <;> exact Nat.succ_pos _) (harr := arr_whole0) (hstage := stage_whole0) (hshare := share_full m ρ)
    (hdistinct := winFacts0.arr_inj)
    (O₀ := O₀) (howed₀ := fun _ => rfl) (howedN := fun _ => rfl)
    (L := L) (lv := lv) (hL := L_of_ne) (hwaits := waits m ρ)
    (G := G m ρ) (G' := G' m ρ) (u₀ := u₀)
    (hu₀ := by
      unfold u₀
      iintro Hu
      ihave H := (ownU_pair _ _) $$ Hu
      icases H with ⟨HP, HX⟩
      imod (fund_ring m ρ) $$ HX with HG
      imodintro
      isplitl [HP] <;> iassumption)
    (hglob := glob m ρ)
    (hA := fun _ _ => rfl) (hpf := fun _ k => k.elim0)
    (X := start m ρ) (Y := fun c => unscopedSems0 c) (Z := fun _ => iprop(emp))
    (hX := start_intro m ρ) (hin := phi0_intro m ρ) (hout := phi1_exit m ρ)
    (QY := fun c s => ∀ sm : SemLoc sig, sm.isScoped .tc = false → s.sem ((c.tc : Thread nD τ), sm) = 0)
    (hY := fun c s' => by
      iintro ⟨Hu, -, HSI⟩
      iapply (Pipeline.unscopedSems0_read (X := unscopedSems0 c) (c := c) fupd_intro s')
      isplitl [Hu] <;> iassumption)
    (hQ := fun _ h hs => ⟨fun c w => (h c).1 w, sem_eq_zero hs fun c => (h c).2.2⟩)

/-- The input array after the run holds what it held. -/
theorem finalA_x (c : Dev nD) : finalA m ρ c (0 : Fin 2) = (s₀ m ρ).mem (win0_0.arr.view.loc (c : Thread nD τ)) :=
  (dats (F := F) m ρ 0 c).arrAt_in (0 : Fin 2) rfl _

/-- The staged input is the input array. -/
theorem xstg_eq (c : Dev nD) : xstg m ρ c = m ((c : Thread nD τ).loc main_arg0) :=
  Memref.read_access_unit_zero (Elt F) main_arg0
    (show (fun a => (win0_0.index (0 : Fin 1)) a * main_arg0.ty.shape.size a) = fun _ => 0 from funext fun a => by fin_cases a <;> decide)
    (fun a => by fin_cases a <;> decide) _

/-- The output array after the run is the kernel's result. -/
theorem finalA_o (c : Dev nD) : finalA m ρ c (1 : Fin 2) = outAt m ρ c := by
  have h : (win0_1.blk (0 : Fin 1)).view.read (Elt F) (finalA m ρ c (1 : Fin 2)) = outAt m ρ c := by
    unfold finalA
    rw [show cfg0.N = ((0 : Fin 1) : Fin cfg0.N).val + 1 from rfl, (dats m ρ 0 c).arrAt_succ (1 : Fin 2) (0 : Fin 1),
      show (cfg0.win (1 : Fin 2)).flush (0 : Fin 1) = true from flush0_1 t0_0, if_pos rfl]
    exact View.read_write_univ _ _
  exact (Memref.read_access_unit_zero (Elt F) main_v1
    (show (fun a => (win0_1.index (0 : Fin 1)) a * main_v1.ty.shape.size a) = fun _ => 0 from funext fun a => by fin_cases a <;> decide)
    (fun a => by fin_cases a <;> decide) _).symm.trans h

end Cert.KernelIdealProof

end
-- ==== Proof.Value.lean ====
/-
What the kernel computes over the extended reals: on device `c`, column block `c` of the sum over the devices,
which is what the reference's sum over the leading axis holds there.
-/
module

public import proofs.«01_k».proof.Proof.KernelIdealRun
public import proofs.«01_k».proof.Proof.Gen.ReferenceIdeal.Run
public import Idealize.ShloMosaic.PureOps.Ideal.Laws
public import Idealize.ShloMosaic.Lib.Layout
public import Idealize.ShloMosaic.Lib.Pointwise.Reduce

@[expose] public section

noncomputable section

namespace Cert.KernelIdealProof

open Cert.KernelIdeal Cert.KernelIdeal.Gen
open Idealize.ShloMosaic
open Idealize.ShloMosaic.TcCoe

variable (m : (ℓ : Loc nD τ sig) → Buf (Elt Ideal) ℓ) (ρ : Dev nD → PrngReg)

/-! ## The input by row and column -/

/-- Row `r`, column `q` of a device's input. -/
def at3 (r q : ℕ) : S1x1024x4096.Idx := fun a =>
  match a with
  | ⟨0, _⟩ => ⟨0, Nat.one_pos⟩
  | ⟨1, _⟩ => ⟨r % 1024, Nat.mod_lt _ (by decide)⟩
  | ⟨2, _⟩ => ⟨q % 4096, Nat.mod_lt _ (by decide)⟩

/-- Device `c`'s input at a row and a column. -/
def xin (r q : ℕ) (c : Dev nD) : EReal := m ((c : Thread nD τ).loc main_arg0) (at3 r q)

/-- A block of the input at an index is the input at that row and column. -/
theorem xval_apply (c : Dev nD) (off : Fin 3 → Nat) (h : ∀ a, off a + S1x512x256.size a ≤ S1x1024x4096.size a) (x : S512x256.Idx) :
    xval m ρ c off h x = xin m (off 1 + (x 0).val) (off 2 + (x 1).val) c := by
  have l1 : off 1 + 512 ≤ 1024 := h 1
  have l2 : off 2 + 256 ≤ 4096 := h 2
  have l0 : off 0 + 1 ≤ 1 := h 0
  have x0 : (x 0).val < 512 := (x 0).isLt
  have x1 : (x 1).val < 256 := (x 1).isLt
  have hx : Shape.reshapeEquiv shapeCasts_S1x512x256_S512x256 x = (Fin.cons ⟨0, Nat.one_pos⟩ x : S1x512x256.Idx) :=
    Shape.reshapeEquiv_cons_one _ x
  unfold xval xin shapeCast
  rw [hx, xstg_eq]
  refine congrArg (m ((c : Thread nD τ).loc main_arg0)) (funext fun a => Fin.ext ?_)
  fin_cases a
  · show off 0 + 1 * 0 = 0; omega
  · show off 1 + 1 * (x 0).val = (off 1 + (x 0).val) % 1024; omega
  · show off 2 + 1 * (x 1).val = (off 2 + (x 1).val) % 4096; omega

/-! ## The partial sums -/

/-- The column block a partial sum of `n` additions on device `c` belongs to. -/
def tcol (d : Bool) (n : ℕ) (c : Dev nD) : ℕ :=
  match d with
  | true => (c.val + (15 - n)) % 8 * 512
  | false => (c.val + 1 + n) % 8 * 512 + 256

theorem tcol_zero (d : Bool) (c : Dev nD) : tcol d 0 c = col0 c d := by revert d c; decide
theorem tcol_step (d : Bool) (s : Fin 7) (c : Dev nD) : tcol d (s.val + 1) c = xcol c d s ∧ tcol d s.val (org d c) = tcol d (s.val + 1) c := by
  revert d s c; decide
theorem tcol_last (d : Bool) (c : Dev nD) : tcol d 7 c = 512 * c.val + if d then 0 else 256 := by revert d c; decide

/-- A partial sum at an index: the inputs of the devices it came through, at one row and column. -/
theorem acc_apply (d : Bool) (k : Fin 2) (x : S512x256.Idx) (n : ℕ) (hn : n ≤ 7) (c : Dev nD) :
    acc m ρ d k n c x = ∑ j ∈ Finset.range (n + 1), xin m (512 * k.val + (x 0).val) (tcol d n c + (x 1).val) ((org d)^[j] c) := by
  induction n generalizing c with
  | zero =>
    rw [Finset.sum_range_one, tcol_zero]
    exact xval_apply m ρ c _ _ x
  | succ n ih =>
    obtain ⟨h1, h2⟩ := tcol_step d ⟨n, hn⟩ c
    dsimp only at h1 h2
    rw [Finset.sum_range_succ']
    show acc m ρ d k n (org d c) x + xval m ρ c (xoff c d (Fin.ofNat 7 n) k) _ x = _
    rw [ih (Nat.le_of_succ_le hn), h2, xval_apply]
    congr 1
    rw [xoff_eq, show Fin.ofNat 7 n = (⟨n, hn⟩ : Fin 7) from Fin.ext (Nat.mod_eq_of_lt hn), h1]
    rfl

/-- Seven steps back visit every device. -/
theorem around (d : Bool) (c : Dev nD) (f : Dev nD → EReal) : ∑ j ∈ Finset.range 8, f ((org d)^[j] c) = ∑ p : Dev nD, f p := by
  rw [Finset.sum_range]
  have h : ∀ (d : Bool) (c : Dev nD), Function.Bijective fun j : Fin 8 => ((org d)^[j.val] c : Dev nD) := by decide +kernel
  exact (h d c).sum_comp f

/-- The kernel's result at an index: the sum over the devices of their inputs at that row, in column block `c`. -/
theorem outAt_apply (c : Dev nD) (i : S1024x512.Idx) :
    @Eq EReal (outAt m ρ c i) (∑ p : Dev nD, xin m (i 0).val (512 * c.val + (i 1).val) p) := by
  have l1 := col_lt i
  have hr : 512 * ((i 0).val / 512) + (i 0).val % 512 = (i 0).val := Nat.div_add_mod _ _
  have hq : (512 * c.val + if decide ((i 1).val < 256) then 0 else 256) + (i 1).val % 256 = 512 * c.val + (i 1).val := by
    by_cases h : (i 1).val < 256
    · rw [decide_eq_true h, if_pos rfl]; omega
    · rw [decide_eq_false h, if_neg Bool.false_ne_true]; omega
  unfold outAt
  rw [acc_apply m ρ _ _ _ 7 le_rfl, around, tcol_last]
  refine Finset.sum_congr rfl fun p _ => ?_
  exact congr (congr (congrArg (xin m) hr) hq) rfl

end Cert.KernelIdealProof

/-! ## The reference -/

namespace Cert.Proof

open Idealize.ShloMosaic Idealize.SL.Sem Cert.ReferenceIdeal Cert.ReferenceIdeal.Gen

/-- The reference's result as a function of its argument. -/
def refOut (V : S8x1024x4096.Idx → EReal) : S1024x4096.Idx → EReal :=
  Host.reduceAdd (F := Ideal) (φ := .f32) V (constant S_ .f32 0x00000000#32) reducesTo_S8x1024x4096_S1024x4096_d0 h_S_

/-- Element `(p, row, column)` of the reference's argument. -/
def lead (p : Fin 8) (j : S1024x4096.Idx) : S8x1024x4096.Idx := fun a =>
  match a with
  | ⟨0, _⟩ => p
  | ⟨1, _⟩ => j 0
  | ⟨2, _⟩ => j 1

/-- The reference at an index: the sum over the leading axis. -/
theorem refOut_apply (V : S8x1024x4096.Idx → EReal) (j : S1024x4096.Idx) : refOut V j = ∑ p : Fin 8, V (lead p j) := by
  have hred : Shape.Reduces S8x1024x4096 [0] S1024x4096 := by decide
  unfold refOut
  rw [Host.reduceAdd_apply, Ideal.hostReduceAdd_def, Ideal.hostReduceAdd_single reducesTo_S8x1024x4096_S1024x4096_d0 hred]
  rw [show (constant (F := Ideal) S_ .f32 0x00000000#32 : S_.Idx → EReal) (Shape.Idx.first h_S_) = 0 from Ideal.ofBits_zero_f32, zero_add]
  refine Finset.sum_congr rfl fun p _ => congrArg V (funext fun a => Fin.ext ?_)
  fin_cases a <;> rfl

end Cert.Proof

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import Idealize.ShloMosaic.Adequacy
public import proofs.«01_k».proof.Proof.Gen.ReferenceIdeal.Run
public import proofs.«01_k».proof.Proof.KernelRun
public import proofs.«01_k».proof.Proof.Value
public import Idealize.ShloMosaic.Init

@[expose] public section

noncomputable section

namespace Cert.Proof

open Idealize.ShloMosaic Idealize.ShloMosaic.TcCoe Idealize.SL.Sem

/-- The kernel terminates without fault, its argument unchanged and every semaphore counter at zero. -/
theorem frame_p : Cert.quiescent_Kernel := fun m ρ _ =>
  (θ_run _ _ _).mono (fun _ h => ⟨fun c => (h.1 c (0 : Fin 2)).trans (KernelProof.finalA_x m ρ c), h.2⟩) (KernelProof.run_main (F := Bits) m ρ)

/-- So does the ideal kernel. -/
theorem frame_pi : Cert.quiescent_KernelIdeal := fun m ρ _ =>
  (θ_run _ _ _).mono (fun _ h => ⟨fun c => (h.1 c (0 : Fin 2)).trans (KernelIdealProof.finalA_x m ρ c), h.2⟩) (KernelIdealProof.run_main (F := Ideal) m ρ)

/-- So does the reference. -/
theorem frame_ri : Cert.quiescent_ReferenceIdeal := fun m ρ _ =>
  (θ_run _ _ _).mono (fun r h => ⟨fun c => (h c).2, sem_eq_zero_of_no_sems (by decide) r.2⟩) (Cert.ReferenceIdeal.Value.run (F := Ideal) m ρ)

/-- Where every device holds its block of the whole array, a device's result is its block of the reference's. -/
theorem out_eq_block (m : (ℓ : Loc KernelIdeal.nD KernelIdeal.τ KernelIdeal.sig) → Buf (Elt Ideal) ℓ) (ρ : Dev KernelIdeal.nD → PrngReg)
    (V : ReferenceIdeal.S8x1024x4096.Idx → EReal)
    (hV : ∀ p : Dev KernelIdeal.nD, m ((p : Thread KernelIdeal.nD KernelIdeal.τ).loc KernelIdeal.main_arg0)
      = Layout.block ⟨3, ![1, 1024, 4096]⟩ ⟨3, ![8, 1024, 4096]⟩ 0 8 p V) (c : Dev KernelIdeal.nD) :
    KernelIdealProof.outAt m ρ c = Layout.block ⟨2, ![1024, 512]⟩ ⟨2, ![1024, 4096]⟩ 1 8 c (refOut V) := by
  funext i
  refine (KernelIdealProof.outAt_apply m ρ c i).trans ?_
  rw [Layout.block_apply]
  refine Eq.trans ?_ (refOut_apply V _).symm
  have l0 := KernelIdealProof.row_lt i
  have l1 := KernelIdealProof.col_lt i
  have lc : c.val < 8 := c.isLt
  refine Finset.sum_congr rfl fun p _ => ?_
  unfold KernelIdealProof.xin
  rw [hV p, Layout.block_apply]
  refine congrArg V (funext fun a => Fin.ext ?_)
  fin_cases a
  · show p.val * 1 + 0 = p.val; omega
  · show (i 0).val % 1024 = (i 0).val; omega
  · show (512 * c.val + (i 1).val) % 4096 = c.val * 512 + (i 1).val; omega

/-- Over the extended reals each device's result is its column block of the reference's sum. -/
theorem value : Cert.algebraic_KernelIdeal_ReferenceIdeal := by
  intro m ρ m' ρ' _ hV
  refine ⟨refOut (m' (((0 : Dev ReferenceIdeal.nD).tc : Thread ReferenceIdeal.nD ReferenceIdeal.τ).loc ReferenceIdeal.main_arg0)), ?_, ?_⟩
  · exact (θ_run _ _ _).mono (fun _ h c => ⟨((h.1 c (1 : Fin 2)).trans (KernelIdealProof.finalA_o m ρ c)).trans (out_eq_block m ρ _ hV c),
      (h.1 c (0 : Fin 2)).trans (KernelIdealProof.finalA_x m ρ c)⟩) (KernelIdealProof.run_main (F := Ideal) m ρ)
  · exact (θ_run _ _ _).mono (fun _ h => h 0) (Cert.ReferenceIdeal.Value.run (F := Ideal) m' ρ')

theorem claim : Cert.Claim := ⟨Cert.Kernel.Gen.facts, Cert.KernelIdeal.Gen.facts, Cert.ReferenceIdeal.Gen.facts,
  frame_p, frame_pi, frame_ri, trivial, value⟩

end Cert.Proof

end
